-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x8192 : Shape := ⟨2, ![2, 8192]⟩
abbrev S64 : Shape := ⟨1, ![64]⟩
abbrev S_ : Shape := ⟨0, ![]⟩

class Facts : Prop where
  bcast_S_S2x8192 : S_.BroadcastsInDim S2x8192 (![] : Fin 0 → Fin S2x8192.rank)
  reducesTo_S2x8192_S_d0_1 : S2x8192.ReducesTo [0, 1] S_
  h_S_ : 0 < S_.numel

variable [Facts]

def fn {F : FTy → Type} [FloatOps F] (main_arg0 : IVec S2x8192 32) (main_arg1 : FVec F S64 .f32) : IVec S_ 1 :=
  let main_c : IVec S_ 32 := constantI S_ 32 0#32
  let main_v0 : IVec S2x8192 32 := broadcastInDim S2x8192 ![] bcast_S_S2x8192 main_c
  let main_v1 : IVec S2x8192 1 := cmpi .sge main_arg0 main_v0
  let main_c_0 : IVec S_ 32 := constantI S_ 32 8192#32
  let main_v2 : IVec S2x8192 32 := broadcastInDim S2x8192 ![] bcast_S_S2x8192 main_c_0
  let main_v3 : IVec S2x8192 1 := cmpi .slt main_arg0 main_v2
  let main_v4 : IVec S2x8192 1 := andi main_v1 main_v3
  let main_c_1 : IVec S_ 1 := constantI S_ 1 1#1
  let main_v5 : IVec S_ 1 := (fun x v => Host.reduce IntOp.andi x v reducesTo_S2x8192_S_d0_1 h_S_) main_v4 main_c_1
  main_v5
-- ==== Kernel.lean ====
abbrev S2x8192 : Shape := ⟨2, ![2, 8192]⟩
abbrev S64 : Shape := ⟨1, ![64]⟩
abbrev S2x64x8192 : Shape := ⟨3, ![2, 64, 8192]⟩
abbrev S8192 : Shape := ⟨1, ![8192]⟩
abbrev S128 : Shape := ⟨1, ![128]⟩
abbrev S4x8192 : Shape := ⟨2, ![4, 8192]⟩
abbrev S_ : Shape := ⟨0, ![]⟩
abbrev S1x8192 : Shape := ⟨2, ![1, 8192]⟩
abbrev S16 : Shape := ⟨1, ![16]⟩
abbrev S1 : Shape := ⟨1, ![1]⟩
abbrev S1x16 : Shape := ⟨2, ![1, 16]⟩
abbrev S4x2048 : Shape := ⟨2, ![4, 2048]⟩
abbrev S1x4x2048 : Shape := ⟨3, ![1, 4, 2048]⟩
abbrev S2x8192x64 : Shape := ⟨3, ![2, 8192, 64]⟩

abbrev nBuf : Table → Nat
  | .hbm => 4
  | .local .scVector .vmem => 3
  | _ => 0

abbrev bufTy : (tb : Table) → Fin (nBuf tb) → BufTy
  | .hbm, ⟨0, _⟩ => ⟨S2x8192, .i32⟩
  | .hbm, ⟨1, _⟩ => ⟨S64, .f32⟩
  | .hbm, ⟨2, _⟩ => ⟨S2x64x8192, .f32⟩
  | .hbm, ⟨3, _⟩ => ⟨S2x8192x64, .f32⟩
  | .local .scVector .vmem, ⟨0, _⟩ => ⟨S8192, .i32⟩
  | .local .scVector .vmem, ⟨1, _⟩ => ⟨S128, .f32⟩
  | .local .scVector .vmem, ⟨2, _⟩ => ⟨S4x8192, .f32⟩
  | _, _ => ⟨S2x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c0_i32_12 : BitVec 32 := 0#32
  ![v18.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let v38 : Index := Scalar.indexCast v29
  ![v38.toNat]
@[reducible] def k0_t1_loop : Scf.Loop 32 :=
  let c0_i32_18 : BitVec 32 := 0#32
  let c128_i32 : BitVec 32 := 128#32
  let v53 : BitVec 32 := Scalar.addi c0_i32_18 c128_i32
  let c1_i32_19 : BitVec 32 := 1#32
  ⟨c0_i32_18, v53, c1_i32_19⟩
def k0_off3 (k0_t1 : Fin k0_t1_loop.trips) : Fin 1 → Nat :=
  let c0_i32_79 : BitVec 32 := 0#32
  let c0_i32_18 : BitVec 32 := 0#32
  let c1_i32_19 : BitVec 32 := 1#32
  let arg11 : BitVec 32 := Scf.iv c0_i32_18 c1_i32_19 k0_t1
  let c16_i32_78 : BitVec 32 := 16#32
  let v105 : BitVec 32 := Scalar.muli arg11 c16_i32_78
  let v106 : BitVec 32 := Scalar.addi c0_i32_79 v105
  let v107 : Index := Scalar.indexCast v106
  ![v107.toNat]
def k0_off4 (k0_t1 : Fin k0_t1_loop.trips) : Fin 2 → Nat :=
  let c0_i32_80 : BitVec 32 := 0#32
  let v113 : Index := Scalar.indexCast c0_i32_80
  let c0_i32_79 : BitVec 32 := 0#32
  let c0_i32_18 : BitVec 32 := 0#32
  let c1_i32_19 : BitVec 32 := 1#32
  let arg11 : BitVec 32 := Scf.iv c0_i32_18 c1_i32_19 k0_t1
  let c16_i32_78 : BitVec 32 := 16#32
  let v105 : BitVec 32 := Scalar.muli arg11 c16_i32_78
  let v106 : BitVec 32 := Scalar.addi c0_i32_79 v105
  let v114 : Index := Scalar.indexCast v106
  ![0, v114.toNat]
def k0_off5 (k0_t1 : Fin k0_t1_loop.trips) : Fin 2 → Nat :=
  let c1_i32_81 : BitVec 32 := 1#32
  let v120 : Index := Scalar.indexCast c1_i32_81
  let c0_i32_79 : BitVec 32 := 0#32
  let c0_i32_18 : BitVec 32 := 0#32
  let c1_i32_19 : BitVec 32 := 1#32
  let arg11 : BitVec 32 := Scf.iv c0_i32_18 c1_i32_19 k0_t1
  let c16_i32_78 : BitVec 32 := 16#32
  let v105 : BitVec 32 := Scalar.muli arg11 c16_i32_78
  let v106 : BitVec 32 := Scalar.addi c0_i32_79 v105
  let v121 : Index := Scalar.indexCast v106
  ![1, v121.toNat]
def k0_off6 (k0_t1 : Fin k0_t1_loop.trips) : Fin 2 → Nat :=
  let c2_i32_82 : BitVec 32 := 2#32
  let v127 : Index := Scalar.indexCast c2_i32_82
  let c0_i32_79 : BitVec 32 := 0#32
  let c0_i32_18 : BitVec 32 := 0#32
  let c1_i32_19 : BitVec 32 := 1#32
  let arg11 : BitVec 32 := Scf.iv c0_i32_18 c1_i32_19 k0_t1
  let c16_i32_78 : BitVec 32 := 16#32
  let v105 : BitVec 32 := Scalar.muli arg11 c16_i32_78
  let v106 : BitVec 32 := Scalar.addi c0_i32_79 v105
  let v128 : Index := Scalar.indexCast v106
  ![2, v128.toNat]
def k0_off7 (k0_t1 : Fin k0_t1_loop.trips) : Fin 2 → Nat :=
  let c3_i32 : BitVec 32 := 3#32
  let v134 : Index := Scalar.indexCast c3_i32
  let c0_i32_79 : BitVec 32 := 0#32
  let c0_i32_18 : BitVec 32 := 0#32
  let c1_i32_19 : BitVec 32 := 1#32
  let arg11 : BitVec 32 := Scf.iv c0_i32_18 c1_i32_19 k0_t1
  let c16_i32_78 : BitVec 32 := 16#32
  let v105 : BitVec 32 := Scalar.muli arg11 c16_i32_78
  let v106 : BitVec 32 := Scalar.addi c0_i32_79 v105
  let v135 : Index := Scalar.indexCast v106
  ![3, v135.toNat]
def k0_off8 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let c0_i32_23 : BitVec 32 := 0#32
  ![v18.toNat, v29.toNat, 0]
@[reducible] def k0_t2_loop : Scf.Loop 32 :=
  let c0_i32_27 : BitVec 32 := 0#32
  let c128_i32_28 : BitVec 32 := 128#32
  let v60 : BitVec 32 := Scalar.addi c0_i32_27 c128_i32_28
  let c1_i32_29 : BitVec 32 := 1#32
  ⟨c0_i32_27, v60, c1_i32_29⟩
def k0_off9 (k0_t2 : Fin k0_t2_loop.trips) : Fin 1 → Nat :=
  let c2048_i32_79 : BitVec 32 := 2048#32
  let c0_i32_27 : BitVec 32 := 0#32
  let c1_i32_29 : BitVec 32 := 1#32
  let arg11 : BitVec 32 := Scf.iv c0_i32_27 c1_i32_29 k0_t2
  let c16_i32_78 : BitVec 32 := 16#32
  let v105 : BitVec 32 := Scalar.muli arg11 c16_i32_78
  let v106 : BitVec 32 := Scalar.addi c2048_i32_79 v105
  let v107 : Index := Scalar.indexCast v106
  ![v107.toNat]
def k0_off10 (k0_t2 : Fin k0_t2_loop.trips) : Fin 2 → Nat :=
  let c0_i32_80 : BitVec 32 := 0#32
  let v113 : Index := Scalar.indexCast c0_i32_80
  let c2048_i32_79 : BitVec 32 := 2048#32
  let c0_i32_27 : BitVec 32 := 0#32
  let c1_i32_29 : BitVec 32 := 1#32
  let arg11 : BitVec 32 := Scf.iv c0_i32_27 c1_i32_29 k0_t2
  let c16_i32_78 : BitVec 32 := 16#32
  let v105 : BitVec 32 := Scalar.muli arg11 c16_i32_78
  let v106 : BitVec 32 := Scalar.addi c2048_i32_79 v105
  let v114 : Index := Scalar.indexCast v106
  ![0, v114.toNat]
def k0_off11 (k0_t2 : Fin k0_t2_loop.trips) : Fin 2 → Nat :=
  let c1_i32_81 : BitVec 32 := 1#32
  let v120 : Index := Scalar.indexCast c1_i32_81
  let c2048_i32_79 : BitVec 32 := 2048#32
  let c0_i32_27 : BitVec 32 := 0#32
  let c1_i32_29 : BitVec 32 := 1#32
  let arg11 : BitVec 32 := Scf.iv c0_i32_27 c1_i32_29 k0_t2
  let c16_i32_78 : BitVec 32 := 16#32
  let v105 : BitVec 32 := Scalar.muli arg11 c16_i32_78
  let v106 : BitVec 32 := Scalar.addi c2048_i32_79 v105
  let v121 : Index := Scalar.indexCast v106
  ![1, v121.toNat]
def k0_off12 (k0_t2 : Fin k0_t2_loop.trips) : Fin 2 → Nat :=
  let c2_i32_82 : BitVec 32 := 2#32
  let v127 : Index := Scalar.indexCast c2_i32_82
  let c2048_i32_79 : BitVec 32 := 2048#32
  let c0_i32_27 : BitVec 32 := 0#32
  let c1_i32_29 : BitVec 32 := 1#32
  let arg11 : BitVec 32 := Scf.iv c0_i32_27 c1_i32_29 k0_t2
  let c16_i32_78 : BitVec 32 := 16#32
  let v105 : BitVec 32 := Scalar.muli arg11 c16_i32_78
  let v106 : BitVec 32 := Scalar.addi c2048_i32_79 v105
  let v128 : Index := Scalar.indexCast v106
  ![2, v128.toNat]
def k0_off13 (k0_t2 : Fin k0_t2_loop.trips) : Fin 2 → Nat :=
  let c3_i32 : BitVec 32 := 3#32
  let v134 : Index := Scalar.indexCast c3_i32
  let c2048_i32_79 : BitVec 32 := 2048#32
  let c0_i32_27 : BitVec 32 := 0#32
  let c1_i32_29 : BitVec 32 := 1#32
  let arg11 : BitVec 32 := Scf.iv c0_i32_27 c1_i32_29 k0_t2
  let c16_i32_78 : BitVec 32 := 16#32
  let v105 : BitVec 32 := Scalar.muli arg11 c16_i32_78
  let v106 : BitVec 32 := Scalar.addi c2048_i32_79 v105
  let v135 : Index := Scalar.indexCast v106
  ![3, v135.toNat]
def k0_off14 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let c2048_i32_32 : BitVec 32 := 2048#32
  ![v18.toNat, v29.toNat, 2048]
@[reducible] def k0_t3_loop : Scf.Loop 32 :=
  let c0_i32_36 : BitVec 32 := 0#32
  let c128_i32_37 : BitVec 32 := 128#32
  let v67 : BitVec 32 := Scalar.addi c0_i32_36 c128_i32_37
  let c1_i32_38 : BitVec 32 := 1#32
  ⟨c0_i32_36, v67, c1_i32_38⟩
def k0_off15 (k0_t3 : Fin k0_t3_loop.trips) : Fin 1 → Nat :=
  let c4096_i32_79 : BitVec 32 := 4096#32
  let c0_i32_36 : BitVec 32 := 0#32
  let c1_i32_38 : BitVec 32 := 1#32
  let arg11 : BitVec 32 := Scf.iv c0_i32_36 c1_i32_38 k0_t3
  let c16_i32_78 : BitVec 32 := 16#32
  let v105 : BitVec 32 := Scalar.muli arg11 c16_i32_78
  let v106 : BitVec 32 := Scalar.addi c4096_i32_79 v105
  let v107 : Index := Scalar.indexCast v106
  ![v107.toNat]
def k0_off16 (k0_t3 : Fin k0_t3_loop.trips) : Fin 2 → Nat :=
  let c0_i32_80 : BitVec 32 := 0#32
  let v113 : Index := Scalar.indexCast c0_i32_80
  let c4096_i32_79 : BitVec 32 := 4096#32
  let c0_i32_36 : BitVec 32 := 0#32
  let c1_i32_38 : BitVec 32 := 1#32
  let arg11 : BitVec 32 := Scf.iv c0_i32_36 c1_i32_38 k0_t3
  let c16_i32_78 : BitVec 32 := 16#32
  let v105 : BitVec 32 := Scalar.muli arg11 c16_i32_78
  let v106 : BitVec 32 := Scalar.addi c4096_i32_79 v105
  let v114 : Index := Scalar.indexCast v106
  ![0, v114.toNat]
def k0_off17 (k0_t3 : Fin k0_t3_loop.trips) : Fin 2 → Nat :=
  let c1_i32_81 : BitVec 32 := 1#32
  let v120 : Index := Scalar.indexCast c1_i32_81
  let c4096_i32_79 : BitVec 32 := 4096#32
  let c0_i32_36 : BitVec 32 := 0#32
  let c1_i32_38 : BitVec 32 := 1#32
  let arg11 : BitVec 32 := Scf.iv c0_i32_36 c1_i32_38 k0_t3
  let c16_i32_78 : BitVec 32 := 16#32
  let v105 : BitVec 32 := Scalar.muli arg11 c16_i32_78
  let v106 : BitVec 32 := Scalar.addi c4096_i32_79 v105
  let v121 : Index := Scalar.indexCast v106
  ![1, v121.toNat]
def k0_off18 (k0_t3 : Fin k0_t3_loop.trips) : Fin 2 → Nat :=
  let c2_i32_82 : BitVec 32 := 2#32
  let v127 : Index := Scalar.indexCast c2_i32_82
  let c4096_i32_79 : BitVec 32 := 4096#32
  let c0_i32_36 : BitVec 32 := 0#32
  let c1_i32_38 : BitVec 32 := 1#32
  let arg11 : BitVec 32 := Scf.iv c0_i32_36 c1_i32_38 k0_t3
  let c16_i32_78 : BitVec 32 := 16#32
  let v105 : BitVec 32 := Scalar.muli arg11 c16_i32_78
  let v106 : BitVec 32 := Scalar.addi c4096_i32_79 v105
  let v128 : Index := Scalar.indexCast v106
  ![2, v128.toNat]
def k0_off19 (k0_t3 : Fin k0_t3_loop.trips) : Fin 2 → Nat :=
  let c3_i32 : BitVec 32 := 3#32
  let v134 : Index := Scalar.indexCast c3_i32
  let c4096_i32_79 : BitVec 32 := 4096#32
  let c0_i32_36 : BitVec 32 := 0#32
  let c1_i32_38 : BitVec 32 := 1#32
  let arg11 : BitVec 32 := Scf.iv c0_i32_36 c1_i32_38 k0_t3
  let c16_i32_78 : BitVec 32 := 16#32
  let v105 : BitVec 32 := Scalar.muli arg11 c16_i32_78
  let v106 : BitVec 32 := Scalar.addi c4096_i32_79 v105
  let v135 : Index := Scalar.indexCast v106
  ![3, v135.toNat]
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let c4096_i32_41 : BitVec 32 := 4096#32
  ![v18.toNat, v29.toNat, 4096]
@[reducible] def k0_t4_loop : Scf.Loop 32 :=
  let c0_i32_45 : BitVec 32 := 0#32
  let c128_i32_46 : BitVec 32 := 128#32
  let v74 : BitVec 32 := Scalar.addi c0_i32_45 c128_i32_46
  let c1_i32_47 : BitVec 32 := 1#32
  ⟨c0_i32_45, v74, c1_i32_47⟩
def k0_off21 (k0_t4 : Fin k0_t4_loop.trips) : Fin 1 → Nat :=
  let c6144_i32_79 : BitVec 32 := 6144#32
  let c0_i32_45 : BitVec 32 := 0#32
  let c1_i32_47 : BitVec 32 := 1#32
  let arg11 : BitVec 32 := Scf.iv c0_i32_45 c1_i32_47 k0_t4
  let c16_i32_78 : BitVec 32 := 16#32
  let v105 : BitVec 32 := Scalar.muli arg11 c16_i32_78
  let v106 : BitVec 32 := Scalar.addi c6144_i32_79 v105
  let v107 : Index := Scalar.indexCast v106
  ![v107.toNat]
def k0_off22 (k0_t4 : Fin k0_t4_loop.trips) : Fin 2 → Nat :=
  let c0_i32_80 : BitVec 32 := 0#32
  let v113 : Index := Scalar.indexCast c0_i32_80
  let c6144_i32_79 : BitVec 32 := 6144#32
  let c0_i32_45 : BitVec 32 := 0#32
  let c1_i32_47 : BitVec 32 := 1#32
  let arg11 : BitVec 32 := Scf.iv c0_i32_45 c1_i32_47 k0_t4
  let c16_i32_78 : BitVec 32 := 16#32
  let v105 : BitVec 32 := Scalar.muli arg11 c16_i32_78
  let v106 : BitVec 32 := Scalar.addi c6144_i32_79 v105
  let v114 : Index := Scalar.indexCast v106
  ![0, v114.toNat]
def k0_off23 (k0_t4 : Fin k0_t4_loop.trips) : Fin 2 → Nat :=
  let c1_i32_81 : BitVec 32 := 1#32
  let v120 : Index := Scalar.indexCast c1_i32_81
  let c6144_i32_79 : BitVec 32 := 6144#32
  let c0_i32_45 : BitVec 32 := 0#32
  let c1_i32_47 : BitVec 32 := 1#32
  let arg11 : BitVec 32 := Scf.iv c0_i32_45 c1_i32_47 k0_t4
  let c16_i32_78 : BitVec 32 := 16#32
  let v105 : BitVec 32 := Scalar.muli arg11 c16_i32_78
  let v106 : BitVec 32 := Scalar.addi c6144_i32_79 v105
  let v121 : Index := Scalar.indexCast v106
  ![1, v121.toNat]
def k0_off24 (k0_t4 : Fin k0_t4_loop.trips) : Fin 2 → Nat :=
  let c2_i32_82 : BitVec 32 := 2#32
  let v127 : Index := Scalar.indexCast c2_i32_82
  let c6144_i32_79 : BitVec 32 := 6144#32
  let c0_i32_45 : BitVec 32 := 0#32
  let c1_i32_47 : BitVec 32 := 1#32
  let arg11 : BitVec 32 := Scf.iv c0_i32_45 c1_i32_47 k0_t4
  let c16_i32_78 : BitVec 32 := 16#32
  let v105 : BitVec 32 := Scalar.muli arg11 c16_i32_78
  let v106 : BitVec 32 := Scalar.addi c6144_i32_79 v105
  let v128 : Index := Scalar.indexCast v106
  ![2, v128.toNat]
def k0_off25 (k0_t4 : Fin k0_t4_loop.trips) : Fin 2 → Nat :=
  let c3_i32 : BitVec 32 := 3#32
  let v134 : Index := Scalar.indexCast c3_i32
  let c6144_i32_79 : BitVec 32 := 6144#32
  let c0_i32_45 : BitVec 32 := 0#32
  let c1_i32_47 : BitVec 32 := 1#32
  let arg11 : BitVec 32 := Scf.iv c0_i32_45 c1_i32_47 k0_t4
  let c16_i32_78 : BitVec 32 := 16#32
  let v105 : BitVec 32 := Scalar.muli arg11 c16_i32_78
  let v106 : BitVec 32 := Scalar.addi c6144_i32_79 v105
  let v135 : Index := Scalar.indexCast v106
  ![3, v135.toNat]
def k0_off26 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c16_i32 : BitVec 32 := 16#32
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let v2 : BitVec 32 := Scalar.divsi v1 c16_i32
  let c1_i32 : BitVec 32 := 1#32
  let v17 : BitVec 32 := Scalar.subi v2 c1_i32
  let v18 : BitVec 32 := Scalar.select v16 v17 v2
  let c16_i32_4 : BitVec 32 := 16#32
  let c0_i32_5 : BitVec 32 := 0#32
  let v19 : BitVec 1 := Scalar.cmpi .eq c16_i32_4 c0_i32_5
  let c1_i32_6 : BitVec 32 := 1#32
  let v20 : BitVec 32 := Scalar.select v19 c1_i32_6 c16_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let c6144_i32_50 : BitVec 32 := 6144#32
  ![v18.toNat, v29.toNat, 6144]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x8192 : Shape := ⟨2, ![2, 8192]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S2x8192x1 : Shape := ⟨3, ![2, 8192, 1]⟩
abbrev S1 : Shape := ⟨1, ![1]⟩
abbrev S1x1x1 : Shape := ⟨3, ![1, 1, 1]⟩
abbrev S2x8192x64 : Shape := ⟨3, ![2, 8192, 64]⟩

abbrev nBuf : Space → Nat
  | .hbm => 34
  | .vmem => 0
  | .smem => 0
  | _ => 0

abbrev bufTy : (tb : Table) → Fin (tcTables nBuf tb) → BufTy
  | .hbm, ⟨0, _⟩ => ⟨S2x8192, .i32⟩
  | .hbm, ⟨1, _⟩ => ⟨S64, .f32⟩
  | .hbm, ⟨2, _⟩ => ⟨S8192, .f32⟩
  | .hbm, ⟨3, _⟩ => ⟨S8192x1, .f32⟩
  | .hbm, ⟨4, _⟩ => ⟨S1x64, .f32⟩
  | .hbm, ⟨5, _⟩ => ⟨S8192x64, .f32⟩
  | .hbm, ⟨6, _⟩ => ⟨S8192x64, .f32⟩
  | .hbm, ⟨7, _⟩ => ⟨S8192x64, .f32⟩
  | .hbm, ⟨8, _⟩ => ⟨S_, .i32⟩
  | .hbm, ⟨9, _⟩ => ⟨S2x8192, .i32⟩
  | .hbm, ⟨10, _⟩ => ⟨S2x8192, .i1⟩
  | .hbm, ⟨11, _⟩ => ⟨S_, .i32⟩
  | .hbm, ⟨12, _⟩ => ⟨S2x8192, .i32⟩
  | .hbm, ⟨13, _⟩ => ⟨S2x8192, .i32⟩
  | .hbm, ⟨14, _⟩ => ⟨S2x8192, .i32⟩
  | .hbm, ⟨15, _⟩ => ⟨S2x8192x1, .i32⟩
  | .hbm, ⟨16, _⟩ => ⟨S1, .i32⟩
  | .hbm, ⟨17, _⟩ => ⟨S_, .i32⟩
  | .hbm, ⟨18, _⟩ => ⟨S2x8192x1, .i32⟩
  | .hbm, ⟨19, _⟩ => ⟨S2x8192x1, .i1⟩
  | .hbm, ⟨20, _⟩ => ⟨S1x1x1, .i32⟩
  | .hbm, ⟨21, _⟩ => ⟨S2x8192x1, .i32⟩
  | .hbm, ⟨22, _⟩ => ⟨S2x8192x1, .i1⟩
  | .hbm, ⟨23, _⟩ => ⟨S2x8192x1, .i1⟩
  | .hbm, ⟨24, _⟩ => ⟨S_, .i1⟩
  | .hbm, ⟨25, _⟩ => ⟨S2x8192, .i1⟩
  | .hbm, ⟨26, _⟩ => ⟨S2x8192x64, .f32⟩
  | .hbm, ⟨27, _⟩ => ⟨S2x8192x64, .i1⟩
  | .hbm, ⟨28, _⟩ => ⟨S_, .f32⟩
  | .hbm, ⟨29, _⟩ => ⟨S2x8192x64, .f32⟩
  | .hbm, ⟨30, _⟩ => ⟨S2x8192x64, .f32⟩
  | .hbm, ⟨31, _⟩ => ⟨S_, .f32⟩
  | .hbm, ⟨32, _⟩ => ⟨S2x8192x64, .f32⟩
  | .hbm, ⟨33, _⟩ => ⟨S2x8192x64, .f32⟩
  | _, _ => ⟨S2x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩

abbrev nD : Nat := 1
abbrev τ : Topo := Topo.v7x

variable {F : FTy → Type} [FloatOps F]
-- ==== Proof.Setup.lean ====
/-
  The vocabulary the proof is written in: the program as the SparseCore launch theorem reads it, the ghost
  state, the kernel's arrays and scratch buffers, the numbers and closed offsets of the 32 tiles, the set of
  elements each tile (and each quarter of a tile) writes, and the two functions that say what is written there.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic
public import Idealize.ShloMosaic.Lib.ValueIdx
public import Idealize.ShloMosaic.Lib.ValueLayout
public import proofs.«01_k».proof.Proof.Gen.KernelIdeal
public import proofs.«01_k».proof.Proof.Gen.KernelIdeal.Skeleton

@[expose] public section

noncomputable section

namespace Cert.Proof.Rope

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and the ghost state -/

/-- The labels, the launch, the definitions and the variants of the program, as the launch theorem takes them. -/
abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are four different unscoped ones and no tile shares a buffer of its SparseCore. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The ghost state: the launch handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb (U := UU)

/-! ## The arrays and the scratch buffers -/

/-- The positions, the frequencies, the kernel's result and the program's result, on device `d`. -/
abbrev pLoc (d : Dev nD) : Loc nD τ sig := (SparseCore.T d).loc main_arg0
abbrev wLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1

/-- The same arrays as a tile names them, and the tile's three scratch buffers: one row of positions, the
    frequencies, four rows of results. -/
abbrev pM : Memref sig .scVector .hbm S2x8192 .i32 := Memref.whole main_arg0_scv
abbrev wM : Memref sig .scVector .hbm S64 .f32 := Memref.whole main_arg1_scv
abbrev oM : Memref sig .scVector .hbm S2x64x8192 .f32 := Memref.whole main_v0_scv
abbrev sP : Memref sig .scVector .vmem S8192 .i32 := Memref.whole cc0_scratch0
abbrev sW : Memref sig .scVector .vmem S128 .f32 := Memref.whole cc0_scratch1
abbrev sO : Memref sig .scVector .vmem S4x8192 .f32 := Memref.whole cc0_scratch2

/-! ## The tiles -/

/-- The grid coordinates of tile `s` of SparseCore `c`. -/
def co (c : Fin (grid0.bound 0)) (s : Fin (grid0.bound 1)) : grid0.Coords :=
  fun | 0 => c | 1 => s | ⟨_ + 2, h⟩ => absurd h (Nat.not_lt.2 (Nat.le_add_left _ _))

/-- The thread of that tile. -/
abbrev tile (d : Dev nD) (c : Fin 2) (s : Fin 16) : Thread nD τ :=
  V d ((co c s 0).castLE hcore0) ((co c s 1).castLE hsub0)

/-- The tile's number among the 32, the row of positions it reads and the first frequency it uses. -/
def num (c : Fin 2) (s : Fin 16) : ℕ := 2 * s.val + c.val
def row (c : Fin 2) (s : Fin 16) : ℕ := num c s / 16
def col (c : Fin 2) (s : Fin 16) : ℕ := 4 * (num c s % 16)

/-- A tile reads one of the two rows of positions … -/
theorem row_lt (c : Fin 2) (s : Fin 16) : row c s < 2 := by unfold row num; omega
/-- … and uses four of the 64 frequencies. -/
theorem col_lt (c : Fin 2) (s : Fin 16) (a : ℕ) (ha : a < 4) : col c s + a < 64 := by unfold col; omega

/-- The program's offsets in closed form: of the row fetched, of the frequencies read, and of the four pieces written. -/
theorem off1_eq : ∀ (c : Fin 2) (s : Fin 16), k0_off1 (co c s) = ![row c s, 0] := by decide +kernel
theorem off2_eq : ∀ (c : Fin 2) (s : Fin 16), k0_off2 (co c s) = ![col c s] := by decide +kernel
theorem off8_eq : ∀ (c : Fin 2) (s : Fin 16), k0_off8 (co c s) = ![row c s, col c s, 2048 * 0] := by decide +kernel
theorem off14_eq : ∀ (c : Fin 2) (s : Fin 16), k0_off14 (co c s) = ![row c s, col c s, 2048 * 1] := by decide +kernel
theorem off20_eq : ∀ (c : Fin 2) (s : Fin 16), k0_off20 (co c s) = ![row c s, col c s, 2048 * 2] := by decide +kernel
theorem off26_eq : ∀ (c : Fin 2) (s : Fin 16), k0_off26 (co c s) = ![row c s, col c s, 2048 * 3] := by decide +kernel

/-! ## What is written -/

section Values

variable [FloatOps F]

/-- The angle of position word `p` at frequency `x`. -/
def angle (p : BitVec 32) (x : F .f32) : F .f32 := FloatOps.mulf (FloatOps.sitofp .f32 p) x

/-- The kernel's result: batch row, frequency, position. -/
def angles (p : S2x8192.Idx → BitVec 32) (w : S64.Idx → F .f32) : S2x64x8192.Idx → F .f32 :=
  fun j => angle (p (ix2 (j 0) (j 2))) (w (ix1 (j 1)))

/-- The row of positions a tile works on. -/
def rowOf (p : S2x8192.Idx → BitVec 32) (c : Fin 2) (s : Fin 16) : S8192.Idx → BitVec 32 :=
  fun j => p (ix2 ⟨row c s, row_lt c s⟩ (j 0))

/-- Frequency `a` of the four a tile uses. -/
def freqOf (w : S64.Idx → F .f32) (c : Fin 2) (s : Fin 16) (a : Fin 4) : F .f32 :=
  w (ix1 ⟨col c s + a.val, col_lt c s a.val a.isLt⟩)

/-- The four rows of results a tile computes from its row of positions and its four frequencies. -/
def block (v : S8192.Idx → BitVec 32) (x : Fin 4 → F .f32) : S4x8192.Idx → F .f32 :=
  fun j => angle (v (ix1 (j 1))) (x (j 0))

/-- The tile's results below column `n`, and `g` from there on. -/
def upTo (n : ℕ) (v : S8192.Idx → BitVec 32) (x : Fin 4 → F .f32) (g : S4x8192.Idx → F .f32) : S4x8192.Idx → F .f32 :=
  fun j => if (j 1).val < n then block v x j else g j

end Values

/-! ## The elements each tile writes -/

/-- Columns `2048 q, …, 2048 q + 2047` of a tile's four rows of results. -/
def cols (q : Fin 4) : Finset S4x8192.Idx := Finset.univ.filter fun j => (j 1).val / 2048 = q.val

/-- The elements of the kernel's result that quarter `q` of tile `(c, s)` writes; all of that tile's; all of the
    SparseCore's. -/
def piece (c : Fin 2) (s : Fin 16) (q : Fin 4) : Finset S2x64x8192.Idx :=
  Finset.univ.filter fun j => (j 0).val * 16 + (j 1).val / 4 = num c s ∧ (j 2).val / 2048 = q.val
def part (c : Fin 2) (s : Fin 16) : Finset S2x64x8192.Idx :=
  Finset.univ.filter fun j => (j 0).val * 16 + (j 1).val / 4 = num c s
def half (c : Fin 2) : Finset S2x64x8192.Idx :=
  Finset.univ.filter fun j => ((j 0).val * 16 + (j 1).val / 4) % 2 = c.val

/-- Membership in each of these sets, as arithmetic on the coordinates. -/
theorem mem_cols (q : Fin 4) (j : S4x8192.Idx) : j ∈ cols q ↔ (j 1).val / 2048 = q.val := by
  rw [cols, Finset.mem_filter]; exact and_iff_right (Finset.mem_univ _)
theorem mem_piece (c : Fin 2) (s : Fin 16) (q : Fin 4) (j : S2x64x8192.Idx) :
    j ∈ piece c s q ↔ (j 0).val * 16 + (j 1).val / 4 = 2 * s.val + c.val ∧ (j 2).val / 2048 = q.val := by
  rw [piece, Finset.mem_filter]; exact and_iff_right (Finset.mem_univ _)
theorem mem_part (c : Fin 2) (s : Fin 16) (j : S2x64x8192.Idx) :
    j ∈ part c s ↔ (j 0).val * 16 + (j 1).val / 4 = 2 * s.val + c.val := by
  rw [part, Finset.mem_filter]; exact and_iff_right (Finset.mem_univ _)
theorem mem_half (c : Fin 2) (j : S2x64x8192.Idx) :
    j ∈ half c ↔ ((j 0).val * 16 + (j 1).val / 4) % 2 = c.val := by
  rw [half, Finset.mem_filter]; exact and_iff_right (Finset.mem_univ _)

/-- The four quarters of a tile's scratch, of its part of the result, the sixteen parts of a half and the two
    halves of the result are apart from one another, and together they are the whole. -/
theorem cols_disjoint : ∀ q ∈ (Finset.univ : Finset (Fin 4)), ∀ q' ∈ (Finset.univ : Finset (Fin 4)), q ≠ q' →
    Disjoint (cols q) (cols q') := fun q _ q' _ h => by
  rw [Finset.disjoint_left]; intro j hj hj'
  rw [mem_cols] at hj hj'
  exact h (Fin.ext (hj.symm.trans hj'))
theorem cols_cover : (Finset.univ : Finset (Fin 4)).biUnion cols = Finset.univ := by
  ext j
  have h1 : (j 1).val < 8192 := (j 1).isLt
  simp only [Finset.mem_biUnion, mem_cols, Finset.mem_univ, true_and, iff_true]
  exact ⟨⟨(j 1).val / 2048, by omega⟩, rfl⟩
theorem piece_disjoint (c : Fin 2) (s : Fin 16) : ∀ q ∈ (Finset.univ : Finset (Fin 4)),
    ∀ q' ∈ (Finset.univ : Finset (Fin 4)), q ≠ q' → Disjoint (piece c s q) (piece c s q') := fun q _ q' _ h => by
  rw [Finset.disjoint_left]; intro j hj hj'
  rw [mem_piece] at hj hj'
  exact h (Fin.ext (hj.2.symm.trans hj'.2))
theorem piece_cover (c : Fin 2) (s : Fin 16) : (Finset.univ : Finset (Fin 4)).biUnion (piece c s) = part c s := by
  ext j
  have h2 : (j 2).val < 8192 := (j 2).isLt
  simp only [Finset.mem_biUnion, mem_piece, mem_part, Finset.mem_univ, true_and]
  exact ⟨fun ⟨_, h, _⟩ => h, fun h => ⟨⟨(j 2).val / 2048, by omega⟩, h, rfl⟩⟩
theorem part_disjoint (c : Fin 2) : ∀ s ∈ (Finset.univ : Finset (Fin 16)), ∀ s' ∈ (Finset.univ : Finset (Fin 16)),
    s ≠ s' → Disjoint (part c s) (part c s') := fun s _ s' _ h => by
  rw [Finset.disjoint_left]; intro j hj hj'
  rw [mem_part] at hj hj'
  exact h (Fin.ext (by omega))
theorem part_cover (c : Fin 2) : (Finset.univ : Finset (Fin 16)).biUnion (part c) = half c := by
  ext j
  have h0 : (j 0).val < 2 := (j 0).isLt
  have h1 : (j 1).val < 64 := (j 1).isLt
  have hc := c.isLt
  simp only [Finset.mem_biUnion, mem_part, mem_half, Finset.mem_univ, true_and]
  refine ⟨fun ⟨s, h⟩ => by omega, fun h => ⟨⟨((j 0).val * 16 + (j 1).val / 4) / 2, by omega⟩, ?_⟩⟩
  simp only
  omega
theorem half_disjoint : ∀ c ∈ (Finset.univ : Finset (Fin 2)), ∀ c' ∈ (Finset.univ : Finset (Fin 2)), c ≠ c' →
    Disjoint (half c) (half c') := fun c _ c' _ h => by
  rw [Finset.disjoint_left]; intro j hj hj'
  rw [mem_half] at hj hj'
  exact h (Fin.ext (hj.symm.trans hj'))
theorem half_cover : (Finset.univ : Finset (Fin 2)).biUnion half = Finset.univ := by
  ext j
  simp only [Finset.mem_biUnion, mem_half, Finset.mem_univ, true_and, iff_true]
  exact ⟨⟨((j 0).val * 16 + (j 1).val / 4) % 2, Nat.mod_lt _ (by decide)⟩, rfl⟩

end Cert.Proof.Rope

end
-- ==== Proof.Trip.lean ====
/-
  One trip of the tile's loop. A trip reads sixteen positions and stores, in each of the four rows of the tile's
  results, the sixteen angles of those positions at that row's frequency. All four loops of the kernel run this
  trip; they differ in the columns it works on.
-/
module

public import proofs.«01_k».proof.Proof.Setup

@[expose] public section

noncomputable section

namespace Cert.Proof.Rope

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values a trip stores -/

/-- Sixteen positions times one frequency, as the trip computes them. -/
def lanes (x : F .f32) (v : Vec F S16 .i32) : FVec F S1x16 .f32 :=
  shapeCast S1x16 (mulf (sitofp .f32 (shapeCast S16 v shapeCasts_S16_S16)) (broadcast S16 x)) shapeCasts_S16_S1x16

/-- Lane `l` of them is the angle of position `l`. -/
theorem lanes_apply (x : F .f32) (v : Vec F S16 .i32) (l : Fin 16) : lanes x v (ix2 0 l) = angle (v (ix1 l)) x := by
  unfold lanes
  rw [shapeCast_a_1a_apply, shapeCast_self]
  rfl

/-- `g` with the sixteen elements of row `a` from column `n` on replaced by `w`. -/
def putRow (a : Fin 4) (n : ℕ) (w : Fin 16 → F .f32) (g : S4x8192.Idx → F .f32) : S4x8192.Idx → F .f32 :=
  fun j => if h : (j 0).val = a.val ∧ n ≤ (j 1).val ∧ (j 1).val < n + 16 then w ⟨(j 1).val - n, by omega⟩ else g j

/-- Storing the four rows of sixteen columns completes the results up to the next sixteen columns. -/
theorem putRow_upTo (v : S8192.Idx → BitVec 32) (x : Fin 4 → F .f32) (g : S4x8192.Idx → F .f32) (n : ℕ) (hn : n + 16 ≤ 8192)
    (w : Fin 4 → Fin 16 → F .f32) (hw : ∀ a l, w a l = angle (v (ix1 ⟨n + l.val, by omega⟩)) (x a)) :
    putRow 3 n (w 3) (putRow 2 n (w 2) (putRow 1 n (w 1) (putRow 0 n (w 0) (upTo n v x g)))) = upTo (n + 16) v x g := by
  funext j
  have h0 : (j 0).val < 4 := (j 0).isLt
  by_cases h : n ≤ (j 1).val ∧ (j 1).val < n + 16
  · have key : ∀ a : Fin 4, (j 0).val = a.val → w a ⟨(j 1).val - n, by omega⟩ = upTo (n + 16) v x g j := fun a ha => by
      rw [hw, upTo, if_pos h.2, block, show j 0 = a from Fin.ext ha]
      exact congrArg (fun i => angle (v (ix1 i)) (x a)) (Fin.ext (by simp only; omega))
    unfold putRow
    split_ifs with h3 h2 h1 h0'
    · exact key 3 h3.1
    · exact key 2 h2.1
    · exact key 1 h1.1
    · exact key 0 h0'.1
    · exfalso
      have e3 : (j 0).val ≠ 3 := fun e => h3 ⟨e, h⟩
      have e2 : (j 0).val ≠ 2 := fun e => h2 ⟨e, h⟩
      have e1 : (j 0).val ≠ 1 := fun e => h1 ⟨e, h⟩
      have e0 : (j 0).val ≠ 0 := fun e => h0' ⟨e, h⟩
      omega
  · unfold putRow
    rw [dif_neg fun h' => h h'.2, dif_neg fun h' => h h'.2, dif_neg fun h' => h h'.2, dif_neg fun h' => h h'.2]
    unfold upTo
    by_cases hl : (j 1).val < n
    · rw [if_pos hl, if_pos (by omega)]
    · rw [if_neg hl, if_neg (by omega)]

/-! ## The trip -/

variable {d : Dev nD} {c : Fin 2} {s : Fin 16}

/-- One row of a trip: the sixteen elements are read and then overwritten with `w`. -/
abbrev rowOps (r : Fin 2 → ℕ) (h : ∀ a, r a + S1x16.size a ≤ S4x8192.size a) (w : FVec F S1x16 .f32)
    (k : Prog (TpuEff nD τ sig (Elt F) Λ₀ (tile d c s).2) Unit) : Prog (TpuEff nD τ sig (Elt F) Λ₀ (tile d c s).2) Unit :=
  .op (.load sO (Rect.unit (s := S4x8192) r S1x16.size h).toLoadRect (View.loadsAt_vmem h_S1x16)) fun _ =>
    .op (.store sO (Rect.unit (s := S4x8192) r S1x16.size h) w Finset.univ (View.stores_vmem_bits_univ h_S1x16 rfl) (.inl rfl)) fun _ => k

/-- One trip, with the offsets its body gives it. -/
abbrev trip (o : Fin 1 → ℕ) (ho : ∀ a, o a + S16.size a ≤ S8192.size a)
    (r : Fin 4 → Fin 2 → ℕ) (hr : ∀ b a, r b a + S1x16.size a ≤ S4x8192.size a) (x : Fin 4 → F .f32) :
    Prog (TpuEff nD τ sig (Elt F) Λ₀ (tile d c s).2) Unit :=
  .op (.load sP (Rect.unit (s := S8192) o S16.size ho).toLoadRect (View.loadsAt_vmem h_S16)) fun v =>
    rowOps (r 0) (hr 0) (lanes (x 0) v) <| rowOps (r 1) (hr 1) (lanes (x 1) v) <|
      rowOps (r 2) (hr 2) (lanes (x 2) v) <| rowOps (r 3) (hr 3) (lanes (x 3) v) <| .ret ⟨⟩

/-- Row `a` of a trip, run on any set of elements that has its sixteen. -/
theorem wp_rowOps {Q : Unit → sProp 𝕄} (a : Fin 4) (n : ℕ) (r : Fin 2 → ℕ) (er : r = ![a.val, n])
    (h : ∀ a, r a + S1x16.size a ≤ S4x8192.size a) (w : FVec F S1x16 .f32)
    (k : Prog (TpuEff nD τ sig (Elt F) Λ₀ (tile d c s).2) Unit) (I : Finset S4x8192.Idx)
    (hI : ∀ j : S4x8192.Idx, n ≤ (j 1).val → (j 1).val < n + 16 → j ∈ I) (g : S4x8192.Idx → F .f32) :
    (sO.view.loc (tile d c s) ↦[I]{fullShare} g : sProp 𝕄) ⊢
      ((sO.view.loc (tile d c s) ↦[I]{fullShare} putRow a n (fun l => w (ix2 0 l)) g) -∗
        wp frame (wpE (defs₀ (F := F)) 𝒱₀ (tile d c s) none) Set.univ k Q) -∗
      wp frame (wpE (defs₀ (F := F)) 𝒱₀ (tile d c s) none) Set.univ (rowOps r h w k) Q := by
  subst er
  have hmem : ∀ j, j ∈ (sO.access (Rect.unit (s := S4x8192) ![a.val, n] S1x16.size h)).set → _ := fun j hj =>
    Rect.mem_set_unit.mp (show j ∈ (Rect.unit (s := S4x8192) ![a.val, n] S1x16.size h).set from
      View.set_slice_whole (b := cc0_scratch2) _ ▸ hj)
  have hsub : (sO.access (Rect.unit (s := S4x8192) ![a.val, n] S1x16.size h)).set ⊆ I := by
    intro j hj
    have := hmem j hj 1
    exact hI j this.1 this.2
  iintro HO Hk
  iapply (wp_load_rect 𝒱₀ (tile d c s) none Set.univ (m := sO) hsub) $$ HO
  iintro HO
  iapply (wp_store 𝒱₀ (tile d c s) none Set.univ (m := sO) (by rw [View.setOn_univ]; exact hsub)) $$ HO
  iintro HO
  iapply Hk
  iapply (Entails.of_eq (pointsTo_congr fun j _ => ?_)) $$ HO
  unfold putRow
  split_ifs with hj
  · have ej : j = (sO.access (Rect.unit (s := S4x8192) ![a.val, n] S1x16.size h)).emb (ix2 0 ⟨(j 1).val - n, by omega⟩) := by
      funext b
      match b with
      | 0 => exact Fin.ext (show (j 0).val = a.val + 1 * 0 by omega)
      | 1 => exact Fin.ext (show (j 1).val = n + 1 * ((j 1).val - n) by omega)
    generalize_proofs hl at ej ⊢
    conv_lhs => rw [ej]
    exact View.write_emb_of_mem _ _ (Finset.mem_univ _)
  · refine View.write_of_not_mem _ _ _ fun hm => hj ?_
    rw [View.setOn_univ] at hm
    have h0 : a.val ≤ (j 0).val ∧ (j 0).val < a.val + 1 := hmem j hm 0
    exact ⟨by omega, hmem j hm 1⟩

/-- A whole trip: with the tile's row of positions at hand, the results complete up to column `n` become complete
    up to column `n + 16`. -/
theorem wp_trip {Q : Unit → sProp 𝕄} (n : ℕ) (o : Fin 1 → ℕ) (eo : o = ![n]) (ho : ∀ a, o a + S16.size a ≤ S8192.size a)
    (r : Fin 4 → Fin 2 → ℕ) (er : ∀ a, r a = ![a.val, n]) (hr : ∀ b a, r b a + S1x16.size a ≤ S4x8192.size a)
    (x : Fin 4 → F .f32) (v : S8192.Idx → BitVec 32) (I : Finset S4x8192.Idx)
    (hI : ∀ j : S4x8192.Idx, n ≤ (j 1).val → (j 1).val < n + 16 → j ∈ I) (g : S4x8192.Idx → F .f32) :
    ((sP.view.loc (tile d c s) ↦[Finset.univ]{fullShare} (v : Buf (Elt F) (sP.view.loc (tile d c s)))) ∗
      (sO.view.loc (tile d c s) ↦[I]{fullShare} upTo n v x g) : sProp 𝕄) ⊢
      (((sP.view.loc (tile d c s) ↦[Finset.univ]{fullShare} (v : Buf (Elt F) (sP.view.loc (tile d c s)))) ∗
        (sO.view.loc (tile d c s) ↦[I]{fullShare} upTo (n + 16) v x g)) -∗ Q ⟨⟩) -∗
      wp frame (wpE (defs₀ (F := F)) 𝒱₀ (tile d c s) none) Set.univ (trip o ho r hr x) Q := by
  subst eo
  have hn : n + 16 ≤ 8192 := ho 0
  iintro ⟨HP, HO⟩ Hk
  iapply (wp_load 𝒱₀ (tile d c s) none Set.univ (m := sP) (Finset.subset_univ _)) $$ HP
  iintro HP
  iapply (wp_rowOps 0 n _ (er 0) (hr 0) _ _ I hI _) $$ HO
  iintro HO
  iapply (wp_rowOps 1 n _ (er 1) (hr 1) _ _ I hI _) $$ HO
  iintro HO
  iapply (wp_rowOps 2 n _ (er 2) (hr 2) _ _ I hI _) $$ HO
  iintro HO
  iapply (wp_rowOps 3 n _ (er 3) (hr 3) _ _ I hI _) $$ HO
  iintro HO
  rw [wp_ret]
  imodintro
  iapply Hk
  isplitl [HP]; · iexact HP
  iapply (Entails.of_eq (congrArg (fun f => (sO.view.loc (tile d c s) ↦[I]{fullShare} f : sProp 𝕄))
    (putRow_upTo v x g n hn (fun a l => lanes (x a) _ (ix2 0 l)) fun a l => ?_))) $$ HO
  rw [lanes_apply]
  refine congrArg (fun i => angle (v i) (x a)) ?_
  funext b
  match b with
  | 0 => exact Fin.ext (show n + 1 * l.val = n + l.val by omega)

end Cert.Proof.Rope

end
-- ==== Proof.Quarter.lean ====
/-
  A quarter of a tile's work: the loop that computes 2048 columns of the tile's four rows, and the copy of those
  columns into the kernel's result. The four copies of a tile are left running together on one semaphore, so they
  are kept as one batch of four, and each delivers its own piece of the result, finished.
-/
module

public import proofs.«01_k».proof.Proof.Trip

@[expose] public section

noncomputable section

namespace Cert.Proof.Rope

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {c : Fin 2} {s : Fin 16}

/-! ## The loop -/

/-- The loop's invariant after `k` trips: the row of positions, and the quarter's columns with the first `16 k` of them
    computed. -/
def progress (d : Dev nD) (c : Fin 2) (s : Fin 16) (q : Fin 4) (x : Fin 4 → F .f32) (v : S8192.Idx → BitVec 32)
    (g : S4x8192.Idx → F .f32) (k : ℕ) : sProp 𝕄 :=
  iprop((sP.view.loc (tile d c s) ↦[Finset.univ]{fullShare} (v : Buf (Elt F) (sP.view.loc (tile d c s)))) ∗
    (sO.view.loc (tile d c s) ↦[cols q]{fullShare} upTo (16 * k + 2048 * q.val) v x g))

/-- The loop of quarter `q`: its 128 trips compute the quarter's 2048 columns. -/
theorem wp_loop {Q : Unit → sProp 𝕄} (q : Fin 4) (l : Scf.Loop 32) (ok : l.OK) (ht : l.trips = 128)
    (o : Fin l.trips → Fin 1 → ℕ) (eo : ∀ k, o k = ![16 * k.val + 2048 * q.val]) (ho : ∀ k a, o k a + S16.size a ≤ S8192.size a)
    (r : Fin l.trips → Fin 4 → Fin 2 → ℕ) (er : ∀ k a, r k a = ![a.val, 16 * k.val + 2048 * q.val])
    (hr : ∀ k b a, r k b a + S1x16.size a ≤ S4x8192.size a) (x : Fin 4 → F .f32) (v : S8192.Idx → BitVec 32)
    (body : Fin l.trips → Unit → Prog (TpuEff nD τ sig (Elt F) Λ₀ (tile d c s).2) Unit)
    (hbody : ∀ k u, body k u = trip (d := d) (o k) (ho k) (r k) (hr k) x) (g : S4x8192.Idx → F .f32) :
    ((sP.view.loc (tile d c s) ↦[Finset.univ]{fullShare} (v : Buf (Elt F) (sP.view.loc (tile d c s)))) ∗
      (sO.view.loc (tile d c s) ↦[cols q]{fullShare} g) : sProp 𝕄) ⊢
      (((sP.view.loc (tile d c s) ↦[Finset.univ]{fullShare} (v : Buf (Elt F) (sP.view.loc (tile d c s)))) ∗
        (sO.view.loc (tile d c s) ↦[cols q]{fullShare} block v x)) -∗ Q ⟨⟩) -∗
      wp frame (wpE (defs₀ (F := F)) 𝒱₀ (tile d c s) none) Set.univ (Scf.Loop.for l ok ⟨⟩ body) Q := by
  have hq := q.isLt
  have hstep : ∀ (k : Fin l.trips) (u : Unit), progress d c s q x v g k.val ⊢
      wp frame (wpE (defs₀ (F := F)) 𝒱₀ (tile d c s) none) Set.univ (body k u) fun _ => progress d c s q x v g (k.val + 1) := by
    intro k u
    have hk := k.isLt
    have hlt : k.val < 128 := ht ▸ hk
    rw [hbody]
    unfold progress
    iintro HI
    iapply (wp_trip (16 * k.val + 2048 * q.val) (o k) (eo k) (ho k) (r k) (er k) (hr k) x v (cols q)
      (fun j h1 h2 => (mem_cols q j).mpr (by omega)) g) $$ HI
    iintro HI
    rw [show 16 * (k.val + 1) + 2048 * q.val = 16 * k.val + 2048 * q.val + 16 by omega]
    iexact HI
  iintro ⟨HP, HO⟩ HQ
  iapply (Scf.wp_for frame (wpE (defs₀ (F := F)) 𝒱₀ (tile d c s) none) Set.univ l.lb l.ub l.st ok ⟨⟩ body
    (fun k _ => progress d c s q x v g k) hstep)
  unfold progress
  isplitl [HP HO]
  · isplitl [HP]; · iexact HP
    iapply (Entails.of_eq (pointsTo_congr fun j hj => ?_)) $$ HO
    have := (mem_cols q j).mp hj
    rw [upTo, if_neg (by omega)]
  · iintro %_ ⟨HP, HO⟩
    iapply HQ
    isplitl [HP]; · iexact HP
    iapply (Entails.of_eq (pointsTo_congr fun j hj => ?_)) $$ HO
    have := (mem_cols q j).mp hj
    have ht' : Scf.trips l.lb l.ub l.st = 128 := ht
    rw [upTo, if_pos (by omega)]

/-! ## The copy -/

/-- What copy `q` of a tile delivers: its piece of the result, finished, and the columns it was read from. -/
def delivery (d : Dev nD) (c : Fin 2) (s : Fin 16) (p : S2x8192.Idx → BitVec 32) (w : S64.Idx → F .f32) (q : Fin 4) : sProp 𝕄 :=
  iprop((oM.view.loc (tile d c s) ↦[piece c s q]{fullShare} (angles p w : Buf (Elt F) (oM.view.loc (tile d c s)))) ∗
    (sO.view.loc (tile d c s) ↦[cols q]{fullShare} (block (rowOf p c s) (freqOf w c s) : Buf (Elt F) (sO.view.loc (tile d c s)))))

/-- A delivery may be kept in the batch of copies. -/
instance (p : S2x8192.Idx → BitVec 32) (w : S64.Idx → F .f32) (q : Fin 4) :
    Storable (upEmb : UEmb _ 𝕄) (delivery d c s p w q) := by unfold delivery; infer_instance

/-- The columns a copy reads. -/
abbrev from_ (o : Fin 2 → ℕ) (ho : ∀ a, o a + S4x2048.size a ≤ S4x8192.size a) : Memref sig .scVector .vmem S4x2048 .f32 :=
  sO.slice (Rect.unit (s := S4x8192) o S4x2048.size ho) (fun _ => rfl)
/-- The elements it writes. -/
abbrev into (o : Fin 3 → ℕ) (ho : ∀ a, o a + S1x4x2048.size a ≤ S2x64x8192.size a) : Memref sig .scVector .hbm S4x2048 .f32 :=
  (oM.slice (Rect.unit (s := S2x64x8192) o S1x4x2048.size ho) (fun _ => rfl)).squeeze S4x2048 squeezes_S1x4x2048_S4x2048

/-- The columns copy `q` reads are the quarter's. -/
theorem from_set (q : Fin 4) (o : Fin 2 → ℕ) (eo : o = ![0, 2048 * q.val]) (ho : ∀ a, o a + S4x2048.size a ≤ S4x8192.size a) :
    (from_ o ho).view.set = cols q := by
  subst eo
  ext j
  have h0 : (j 0).val < 4 := (j 0).isLt
  rw [mem_cols, show (from_ _ ho).view.set = (Rect.unit (s := S4x8192) _ S4x2048.size ho).set from
    View.set_slice_whole (b := cc0_scratch2) _, Rect.mem_set_unit]
  constructor
  · intro h
    have h1 : 2048 * q.val ≤ (j 1).val ∧ (j 1).val < 2048 * q.val + 2048 := h 1
    omega
  · intro h a
    match a with
    | 0 => exact ⟨Nat.zero_le _, show (j 0).val < 0 + 4 by omega⟩
    | 1 => exact ⟨show 2048 * q.val ≤ (j 1).val by omega, show (j 1).val < 2048 * q.val + 2048 by omega⟩

/-- The elements copy `q` writes are the quarter's piece of the result. -/
theorem into_set (q : Fin 4) (o : Fin 3 → ℕ) (eo : o = ![row c s, col c s, 2048 * q.val])
    (ho : ∀ a, o a + S1x4x2048.size a ≤ S2x64x8192.size a) : (into o ho).view.set = piece c s q := by
  subst eo
  ext j
  have h1 : (j 1).val < 64 := (j 1).isLt
  rw [mem_piece, show (into _ ho).view.set = (Rect.unit (s := S2x64x8192) _ S1x4x2048.size ho).set from
    (View.set_reshape _ _).trans (View.set_slice_whole (b := main_v0_scv) _), Rect.mem_set_unit]
  constructor
  · intro h
    have h0 : row c s ≤ (j 0).val ∧ (j 0).val < row c s + 1 := h 0
    have h1 : col c s ≤ (j 1).val ∧ (j 1).val < col c s + 4 := h 1
    have h2 : 2048 * q.val ≤ (j 2).val ∧ (j 2).val < 2048 * q.val + 2048 := h 2
    unfold row num at h0
    unfold col num at h1
    omega
  · intro h a
    match a with
    | 0 => exact ⟨show row c s ≤ (j 0).val by unfold row num; omega, show (j 0).val < row c s + 1 by unfold row num; omega⟩
    | 1 => exact ⟨show col c s ≤ (j 1).val by unfold col num; omega, show (j 1).val < col c s + 4 by unfold col num; omega⟩
    | 2 => exact ⟨show 2048 * q.val ≤ (j 2).val by omega, show (j 2).val < 2048 * q.val + 2048 by omega⟩

/-- The credit of one copy. -/
abbrev credit : ℕ := (main_v0_scv : Ref sig .scVector).dmaCredit S4x2048 .f32

/-- What a copy leaves is what it is to deliver: the columns' results are the result's own at the piece. -/
theorem copied (p : S2x8192.Idx → BitVec 32) (w : S64.Idx → F .f32) (q : Fin 4)
    (o : Fin 2 → ℕ) (eo : o = ![0, 2048 * q.val]) (ho : ∀ a, o a + S4x2048.size a ≤ S4x8192.size a)
    (o' : Fin 3 → ℕ) (eo' : o' = ![row c s, col c s, 2048 * q.val]) (ho' : ∀ a, o' a + S1x4x2048.size a ≤ S2x64x8192.size a)
    (f : S2x64x8192.Idx → F .f32) :
    (((into o' ho').view.loc (tile d c s) ↦[piece c s q]{fullShare} (into o' ho').view.write (Elt F) f
        ((ReadAs.same (Val := Elt F) (s := S4x2048) (e := .f32)).apply
          ((from_ o ho).view.read (Elt F) (block (rowOf p c s) (freqOf w c s)))) Finset.univ) ∗
      ((from_ o ho).view.loc (tile d c s) ↦[(from_ o ho).view.set]{fullShare}
        (block (rowOf p c s) (freqOf w c s) : Buf (Elt F) ((from_ o ho).view.loc (tile d c s)))) : sProp 𝕄) ⊢
      delivery d c s p w q := by
  unfold delivery
  rw [from_set q o eo ho]
  refine sep_mono (Entails.of_eq (pointsTo_congr fun j hj => ?_)) .rfl
  rw [← into_set q o' eo' ho'] at hj
  subst eo eo'
  obtain ⟨y, -, rfl⟩ := Finset.mem_map.mp hj
  obtain ⟨a, t, rfl⟩ : ∃ (a : Fin 4) (t : Fin 2048), y = ix2 a t := ⟨_, _, eq_ix2 y⟩
  refine (View.write_emb_of_mem _ _ (Finset.mem_univ _)).trans ?_
  have ei : (into _ ho').view.emb (ix2 a t) = (Rect.unit (s := S2x64x8192) _ S1x4x2048.size ho').emb (ix3 0 a t) :=
    congrArg (Rect.unit (s := S2x64x8192) _ S1x4x2048.size ho').emb (reshapeEquiv_ix2_1ab _ a t)
  rw [ei]
  refine congrArg₂ angle (congrArg p ?_) (congrArg w ?_)
  · funext b
    match b with
    | 0 => exact Fin.ext (show row c s = row c s + 1 * 0 by omega)
    | 1 => rfl
  · funext b
    match b with
    | 0 => exact Fin.ext (show col c s + (0 + 1 * a.val) = col c s + 1 * a.val by omega)

/-- Copy `q` issued: the quarter's columns and the piece they go to join the batch. -/
theorem wp_copy {α : Type} {Q : α → sProp 𝕄} (p : S2x8192.Idx → BitVec 32) (w : S64.Idx → F .f32) (q : Fin 4)
    (o : Fin 2 → ℕ) (eo : o = ![0, 2048 * q.val]) (ho : ∀ a, o a + S4x2048.size a ≤ S4x8192.size a)
    (o' : Fin 3 → ℕ) (eo' : o' = ![row c s, col c s, 2048 * q.val]) (ho' : ∀ a, o' a + S1x4x2048.size a ≤ S2x64x8192.size a)
    (k : PUnit → Prog (TpuEff nD τ sig (Elt F) Λ₀ (tile d c s).2) α) (f : S2x64x8192.Idx → F .f32) :
    ((sO.view.loc (tile d c s) ↦[cols q]{fullShare} (block (rowOf p c s) (freqOf w c s) : Buf (Elt F) (sO.view.loc (tile d c s)))) ∗
      (oM.view.loc (tile d c s) ↦[piece c s q]{fullShare} (f : Buf (Elt F) (oM.view.loc (tile d c s)))) ∗
      Transfers.Batch EC (tile d c s) (.dma cc0_scratch5.sem) (default : HIx 1) credit (delivery d c s p w) q.val 0 : sProp 𝕄) ⊢
      (Transfers.Batch EC (tile d c s) (.dma cc0_scratch5.sem) (default : HIx 1) credit (delivery d c s p w) (q.val + 1) 0 -∗
        wp frame (wpE (defs₀ (F := F)) 𝒱₀ (tile d c s) none) Set.univ (k ⟨⟩) Q) -∗
      wp frame (wpE (defs₀ (F := F)) 𝒱₀ (tile d c s) none) Set.univ
        (.op (.enqueueDma (from_ o ho) (.here (into o' ho')) (.dma cc0_scratch5.sem) (View.wordExact_bits rfl) ((View.wordExact_bits rfl).reshape _ _) ⟨Or.inl rfl, trivial⟩) k) Q := by
  subst eo eo'
  iintro ⟨HO, Hp, HB⟩ Hk
  iapply (Transfers.wp_dmaBatch EC 𝒱₀ (tile d c s) none (src := from_ _ ho) (dst := into _ ho') (via := ReadAs.same)
    (q := fullShare) (fs := block (rowOf p c s) (freqOf w c s)) (fd := f)
    (Sd := piece c s q) (default : HIx 1) credit rfl (into_set q _ rfl ho').subset q.isLt (Nat.zero_le _)
    (copied p w q _ rfl ho _ rfl ho' f)) $$ [HO Hp HB] Hk
  rw [from_set q _ rfl ho]
  isplitl [HO]; · iexact HO
  isplitl [Hp] <;> iassumption

/-! ## A quarter -/

/-- Quarter `q`: its columns computed and their copy issued. -/
theorem wp_quarter {α : Type} {Q : α → sProp 𝕄} (p : S2x8192.Idx → BitVec 32) (w : S64.Idx → F .f32) (q : Fin 4)
    (l : Scf.Loop 32) (ok : l.OK) (ht : l.trips = 128)
    (o : Fin l.trips → Fin 1 → ℕ) (eo : ∀ k, o k = ![16 * k.val + 2048 * q.val]) (ho : ∀ k a, o k a + S16.size a ≤ S8192.size a)
    (r : Fin l.trips → Fin 4 → Fin 2 → ℕ) (er : ∀ k a, r k a = ![a.val, 16 * k.val + 2048 * q.val])
    (hr : ∀ k b a, r k b a + S1x16.size a ≤ S4x8192.size a) (x : Fin 4 → F .f32) (hx : x = freqOf w c s)
    (body : Fin l.trips → Unit → Prog (TpuEff nD τ sig (Elt F) Λ₀ (tile d c s).2) Unit)
    (hbody : ∀ k u, body k u = trip (d := d) (o k) (ho k) (r k) (hr k) x)
    (n : Fin 2 → ℕ) (en : n = ![0, 2048 * q.val]) (hn : ∀ a, n a + S4x2048.size a ≤ S4x8192.size a)
    (n' : Fin 3 → ℕ) (en' : n' = ![row c s, col c s, 2048 * q.val]) (hn' : ∀ a, n' a + S1x4x2048.size a ≤ S2x64x8192.size a)
    (k : PUnit → Prog (TpuEff nD τ sig (Elt F) Λ₀ (tile d c s).2) α) (g : S4x8192.Idx → F .f32) (f : S2x64x8192.Idx → F .f32) :
    ((sP.view.loc (tile d c s) ↦[Finset.univ]{fullShare} (rowOf p c s : Buf (Elt F) (sP.view.loc (tile d c s)))) ∗
      (sO.view.loc (tile d c s) ↦[cols q]{fullShare} g) ∗
      (oM.view.loc (tile d c s) ↦[piece c s q]{fullShare} (f : Buf (Elt F) (oM.view.loc (tile d c s)))) ∗
      Transfers.Batch EC (tile d c s) (.dma cc0_scratch5.sem) (default : HIx 1) credit (delivery d c s p w) q.val 0 : sProp 𝕄) ⊢
      (((sP.view.loc (tile d c s) ↦[Finset.univ]{fullShare} (rowOf p c s : Buf (Elt F) (sP.view.loc (tile d c s)))) ∗
          Transfers.Batch EC (tile d c s) (.dma cc0_scratch5.sem) (default : HIx 1) credit (delivery d c s p w) (q.val + 1) 0) -∗
        wp frame (wpE (defs₀ (F := F)) 𝒱₀ (tile d c s) none) Set.univ (k ⟨⟩) Q) -∗
      wp frame (wpE (defs₀ (F := F)) 𝒱₀ (tile d c s) none) Set.univ
        (Scf.Loop.for l ok ⟨⟩ body >>= fun _ => .op (.enqueueDma (from_ n hn) (.here (into n' hn')) (.dma cc0_scratch5.sem)
          (View.wordExact_bits rfl) ((View.wordExact_bits rfl).reshape _ _) ⟨Or.inl rfl, trivial⟩) k) Q := by
  subst hx
  iintro ⟨HP, HO, Ho, HB⟩ Hk
  rw [wp_bind]
  iapply (wp_loop q l ok ht o eo ho r er hr (freqOf w c s) (rowOf p c s) body hbody g) $$ [HP HO]
  · isplitl [HP] <;> iassumption
  iintro ⟨HP, HO⟩
  iapply (wp_copy p w q n en hn n' en' hn' k f) $$ [HO Ho HB]
  · isplitl [HO]; · iexact HO
    isplitl [Ho] <;> iassumption
  iintro HB
  iapply Hk
  isplitl [HP] <;> iassumption

end Cert.Proof.Rope

end
-- ==== Proof.Tile.lean ====
/-
  One tile's task, from what the launch hands it to what it hands back. It fetches the frequencies and its row of
  positions, computes the four quarters of its part of the result, each copied out while the next is computed, and
  waits for the four copies.
-/
module

public import proofs.«01_k».proof.Proof.Quarter

@[expose] public section

noncomputable section

namespace Cert.Proof.Rope

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (c : Fin 2) (s : Fin 16)

/-! ## What a tile is given and gives back -/

/-- The share of the two read-only arrays a SparseCore works with, and a tile of it. -/
def coreShare (c : Fin 2) : PosShare TreeShare := Transfers.dealOf fullShare Finset.univ c
def tileShare (c : Fin 2) (s : Fin 16) : PosShare TreeShare := Transfers.dealOf (coreShare c) Finset.univ s

/-- The kernel's result on device `d`, from the launch's memory. -/
def result : S2x64x8192.Idx → F .f32 := angles (m (pLoc d)) (m (wLoc d))

/-- A tile's holding with its part of the result at contents `f`: it is handed the part as the launch found it and
    hands it back finished. -/
def holding (f : S2x64x8192.Idx → F .f32) : sProp 𝕄 :=
  iprop((pLoc d ↦[Finset.univ]{tileShare c s} m (pLoc d)) ∗ (wLoc d ↦[Finset.univ]{tileShare c s} m (wLoc d)) ∗
    (oLoc d ↦[part c s]{fullShare} (f : Buf (Elt F) (oLoc d))))

/-! ## The tile's own semaphores and buffers -/

/-- Three members of a separating conjunction taken out of it. -/
theorem bigSep_three {ι : Type} [DecidableEq ι] {I : Finset ι} (Φ : ι → sProp 𝕄) (a b c : ι)
    (ha : a ∈ I) (hb : b ∈ I) (hc : c ∈ I)
    (hba : b ≠ a) (hca : c ≠ a) (hcb : c ≠ b) :
    bigSep I Φ = iprop(Φ a ∗ Φ b ∗ Φ c ∗ bigSep (((I.erase a).erase b).erase c) Φ) := by
  rw [SparseCore.bigSep_erase' ha, SparseCore.bigSep_erase' (Finset.mem_erase.mpr ⟨hba, hb⟩),
    SparseCore.bigSep_erase' (Finset.mem_erase.mpr ⟨hcb, Finset.mem_erase.mpr ⟨hca, hc⟩⟩)]

/-- The tile's semaphore for copies into the result, and those for the two fetches. -/
abbrev cell (d : Dev nD) (c : Fin 2) (s : Fin 16) (x : DmaSems sig S_) : GSem nD τ sig := (tile d c s, .dma x.sem)

/-- A tile's semaphores at zero are these three at zero and the rest. -/
theorem own_cells : (SparseCore.Cfg.ownSems0 (tile d c s) : sProp 𝕄)
    = iprop(semVal (cell d c s cc0_scratch3) 0 ∗ semVal (cell d c s cc0_scratch4) 0 ∗ semVal (cell d c s cc0_scratch5) 0 ∗
        bigSep ((((SparseCore.Cfg.ownCells (tile d c s)).erase (cell d c s cc0_scratch3)).erase (cell d c s cc0_scratch4)).erase (cell d c s cc0_scratch5))
          fun g => semVal g 0) :=
  bigSep_three _ _ _ _
    (SparseCore.Cfg.mem_ownCells.mpr ⟨rfl, show (SemLoc.dma cc0_scratch3.sem : SemLoc sig).isScoped .scVector = true by decide⟩)
    (SparseCore.Cfg.mem_ownCells.mpr ⟨rfl, show (SemLoc.dma cc0_scratch4.sem : SemLoc sig).isScoped .scVector = true by decide⟩)
    (SparseCore.Cfg.mem_ownCells.mpr ⟨rfl, show (SemLoc.dma cc0_scratch5.sem : SemLoc sig).isScoped .scVector = true by decide⟩)
    (fun e => absurd (Prod.ext_iff.mp e).2 (show (SemLoc.dma cc0_scratch4.sem : SemLoc sig) ≠ .dma cc0_scratch3.sem by decide))
    (fun e => absurd (Prod.ext_iff.mp e).2 (show (SemLoc.dma cc0_scratch5.sem : SemLoc sig) ≠ .dma cc0_scratch3.sem by decide))
    (fun e => absurd (Prod.ext_iff.mp e).2 (show (SemLoc.dma cc0_scratch5.sem : SemLoc sig) ≠ .dma cc0_scratch4.sem by decide))

/-- A scratch buffer of the tile, as the launch lists it. -/
abbrev buf (c : Fin 2) (s : Fin 16) (x : Ref sig .scVector) : DevRef τ sig := (tile (0 : Dev nD) c s).2.devRef x

/-- A tile's buffers are its three scratch buffers and the rest. -/
theorem own_bufs : (SparseCore.Cfg.ownBufs (tile d c s) : sProp 𝕄)
    = iprop((∃ f, (tile d c s).loc cc0_scratch0 ↦{fullShare} f) ∗ (∃ f, (tile d c s).loc cc0_scratch1 ↦{fullShare} f) ∗
        (∃ f, (tile d c s).loc cc0_scratch2 ↦{fullShare} f) ∗
        bigSep ((((SparseCore.Cfg.ownRefs (τ := τ) (tile d c s).2).erase (buf c s cc0_scratch0)).erase (buf c s cc0_scratch1)).erase (buf c s cc0_scratch2))
          fun b => iprop(∃ f, ((d, b) : Loc nD τ sig) ↦{fullShare} f)) :=
  bigSep_three (fun b : DevRef τ sig => iprop(∃ f, ((d, b) : Loc nD τ sig) ↦{fullShare} f)) (buf c s cc0_scratch0) (buf c s cc0_scratch1) (buf c s cc0_scratch2)
    (SparseCore.Cfg.mem_ownRefs_of_owner (p := (tile d c s).2) rfl) (SparseCore.Cfg.mem_ownRefs_of_owner (p := (tile d c s).2) rfl)
    (SparseCore.Cfg.mem_ownRefs_of_owner (p := (tile d c s).2) rfl)
    (fun e => absurd (Proc.devRef_injective _ e) (show (cc0_scratch1 : Ref sig .scVector) ≠ cc0_scratch0 by decide))
    (fun e => absurd (Proc.devRef_injective _ e) (show (cc0_scratch2 : Ref sig .scVector) ≠ cc0_scratch0 by decide))
    (fun e => absurd (Proc.devRef_injective _ e) (show (cc0_scratch2 : Ref sig .scVector) ≠ cc0_scratch1 by decide))

/-! ## What the fetches bring -/

/-- The four frequencies a tile takes out of the sixteen it loads. -/
def picks (x : Vec F S16 .f32) : Fin 4 → F .f32 := ![k0_pay2 x, k0_pay3 x, k0_pay4 x, k0_pay5 x]

/-- Frequency `a` picked is lane `a` of the sixteen read. -/
theorem picks_apply (x : Vec F S16 .f32) (a : Fin 4) : picks x a = x (ix1 ⟨a.val, by omega⟩) := by
  have h : ∀ a : Fin 4, picks x a = k0_pay1 x (ix1 ⟨a.val, by omega⟩) := fun a => match a with
    | 0 => congrArg (k0_pay1 x) (funext fun b => match b with | 0 => rfl)
    | 1 => congrArg (k0_pay1 x) (funext fun b => match b with | 0 => rfl)
    | 2 => congrArg (k0_pay1 x) (funext fun b => match b with | 0 => rfl)
    | 3 => congrArg (k0_pay1 x) (funext fun b => match b with | 0 => rfl)
  rw [h]
  exact congrFun (shapeCast_self x shapeCasts_S16_S16) _

/-- With the 64 frequencies fetched, they are the tile's four. -/
theorem picks_fetched (x w : S64.Idx → F .f32) (hx : x = w) (w₀ : S128.Idx → F .f32) :
    picks (sW.view.readAt (Elt F) (Rect.unit (s := S128) (k0_off2 (co c s)) S16.size (k0_off2_inb (co c s))).toLoadRect
      (sW.view.writes (Elt F) w₀ [⟨Rect.unit (s := S128) ![0] S64.size inb_S128_S64_0, x⟩])) = freqOf w c s := by
  subst hx
  funext a
  rw [picks_apply, View.readAt_apply]
  refine (View.read_writes_cons_hit_of_coords (Val := Elt F) sW.view w₀ (Rect.unit (s := S128) ![0] S64.size inb_S128_S64_0) x [] (ix1 ⟨col c s + a.val, col_lt c s a.val a.isLt⟩) _ fun b => ?_).trans rfl
  match b with
  | 0 =>
    have h : k0_off2 (co c s) 0 = col c s := congrFun (off2_eq c s) 0
    show k0_off2 (co c s) 0 + 1 * a.val = 0 + 1 * (col c s + a.val)
    omega

/-- The fetched row of positions is the tile's. -/
theorem row_fetched (p : S2x8192.Idx → BitVec 32) (p₀ : S8192.Idx → BitVec 32) :
    sP.view.write (Elt F) p₀ ((ReadAs.same (Val := Elt F) (s := S8192) (e := .i32)).apply
      (((pM.slice (Rect.unit (s := S2x8192) (k0_off1 (co c s)) S1x8192.size (k0_off1_inb (co c s))) (fun _ => rfl)).squeeze S8192
        squeezes_S1x8192_S8192).view.read (Elt F) p)) Finset.univ = rowOf p c s := by
  refine (View.write_whole_univ (Val := Elt F) cc0_scratch0 _ _).trans ?_
  funext j
  obtain ⟨t, rfl⟩ : ∃ t : Fin 8192, j = ix1 t := ⟨_, eq_ix1 j⟩
  have e : ∀ h : S8192.numel = S1x8192.numel, Shape.reshapeEquiv h (ix1 t) = (ix2 0 t : S1x8192.Idx) := fun h =>
    Shape.reshapeEquiv_eq_of_rowMajor h (by
      rw [Shape.rowMajor_val_two, Shape.rowMajor_val_one]
      show 0 * 8192 + t.val = t.val
      omega)
  refine congrArg p ((congrArg (Rect.unit (s := S2x8192) (k0_off1 (co c s)) S1x8192.size (k0_off1_inb (co c s))).emb (e _)).trans ?_)
  funext b
  match b with
  | 0 =>
    have h : k0_off1 (co c s) 0 = row c s := congrFun (off1_eq c s) 0
    exact Fin.ext (show k0_off1 (co c s) 0 + 1 * 0 = row c s by omega)
  | 1 =>
    have h : k0_off1 (co c s) 1 = 0 := congrFun (off1_eq c s) 1
    exact Fin.ext (show k0_off1 (co c s) 1 + 1 * t.val = t.val by omega)

/-! ## The quarters together -/

/-- The scratch and the tile's part of the result, quarter by quarter. -/
theorem scratch_quarters (g : S4x8192.Idx → F .f32) :
    (sO.view.loc (tile d c s) ↦[Finset.univ]{fullShare} (g : Buf (Elt F) (sO.view.loc (tile d c s))) : sProp 𝕄)
      = bigSep Finset.univ fun q : Fin 4 => (sO.view.loc (tile d c s) ↦[cols q]{fullShare} (g : Buf (Elt F) (sO.view.loc (tile d c s)))) := by
  rw [← pointsTo_biUnion Finset.univ (ℓ := sO.view.loc (tile d c s)) cols cols_disjoint, cols_cover]
/-- A tile's part of the result is its four pieces. -/
theorem part_quarters (f : S2x64x8192.Idx → F .f32) :
    (oM.view.loc (tile d c s) ↦[part c s]{fullShare} (f : Buf (Elt F) (oM.view.loc (tile d c s))) : sProp 𝕄)
      = bigSep Finset.univ fun q : Fin 4 => (oM.view.loc (tile d c s) ↦[piece c s q]{fullShare} (f : Buf (Elt F) (oM.view.loc (tile d c s)))) := by
  rw [← pointsTo_biUnion Finset.univ (ℓ := oM.view.loc (tile d c s)) (piece c s) (piece_disjoint c s), piece_cover]

/-- The four deliveries together: the tile's part of the result, finished, and the scratch. -/
theorem delivered (p : S2x8192.Idx → BitVec 32) (w : S64.Idx → F .f32) :
    (bigSep Finset.univ (delivery d c s p w) : sProp 𝕄)
      = iprop((oM.view.loc (tile d c s) ↦[part c s]{fullShare} (angles p w : Buf (Elt F) (oM.view.loc (tile d c s)))) ∗
          (sO.view.loc (tile d c s) ↦[Finset.univ]{fullShare} (block (rowOf p c s) (freqOf w c s) : Buf (Elt F) (sO.view.loc (tile d c s))))) := by
  rw [part_quarters, scratch_quarters, ← bigSep_sep']
  rfl

/-- A conjunction over the four quarters, written out. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A fact about the four rows, row by row. -/
theorem four {A : Fin 4 → Prop} (h0 : A 0) (h1 : A 1) (h2 : A 2) (h3 : A 3) : ∀ a, A a
  | 0 => h0
  | 1 => h1
  | 2 => h2
  | 3 => h3

/-! ## The task -/

/-- The closed forms of the two offsets of the fetches. -/
instance : ClosedOff (k0_off1 (co c s)) := ⟨![row c s, 0], off1_eq c s⟩
instance : ClosedOff (k0_off2 (co c s)) := ⟨![col c s], off2_eq c s⟩

set_option maxHeartbeats 1000000 in
/-- The task of tile `(c, s)`: its part of the result comes back finished. -/
theorem wp_tile (hF : (K (F := F)).Facts) (O : CellTallies nD τ sig (HIx 1)) (W : Waits sig (HIx 1)) (hO : ∀ g, O g none = 0) :
    iprop(levAts (K (F := F)).L (K (F := F)).lev ∗ emp ∗ holding m d c s (m (oLoc d)) ∗
        scopedBufs (tile d c s) ∗ scopedSems0 (tile d c s) ∗ owes (tile d c s) O W)
      ⊢ wp frame (wpE (defs₀ (F := F)) 𝒱₀ (tile d c s) none) Set.univ
          (cc0__rope_theta_sc (co c s) pM (Memref.isWhole_whole _) wM (Memref.isWhole_whole _) oM (Memref.isWhole_whole _)
            sP (Memref.isWhole_whole _) sW (Memref.isWhole_whole _) sO (Memref.isWhole_whole _) cc0_scratch3 cc0_scratch4 cc0_scratch5)
          fun _ => iprop(holding m d c s (result m d) ∗ scopedBufs (tile d c s) ∗ scopedSems0 (tile d c s) ∗
            ∃ W', ⌜∀ p ∈ W', p ∈ W ∨ p.2 = none ∨ p.2 = some (0 : Fin 1)⌝ ∗ owes (tile d c s) O W') := by
  rw [(K (F := F)).scopedBufs_V hF d ((co c s 0).castLE hcore0) ((co c s 1).castLE hsub0),
    SparseCore.Cfg.scopedSems0_V (Val := Elt F) d ((co c s 0).castLE hcore0) ((co c s 1).castLE hsub0), own_cells, own_bufs]
  unfold holding
  iintro ⟨#Hlv, -, ⟨Hp, Hw, Ho⟩, ⟨⟨%p₀, HP⟩, ⟨%w₀, HW⟩, ⟨%o₀, HO⟩, Hbufs⟩, ⟨H3, H4, H5, Hsems⟩, How⟩
  ihave Hmw := (show levAts (K (F := F)).L (K (F := F)).lev ⊢ Transfers.MayWaits (tile d c s) (default : HIx 1) O from
    (K (F := F)).mayWaits_none (thr := tile d c s) hO) $$ Hlv
  ihave Hp := (show (pLoc d ↦[Finset.univ]{tileShare c s} m (pLoc d) : sProp 𝕄) ⊢
    (pM.view.loc (tile d c s) ↦{tileShare c s} m (pLoc d)) from .rfl) $$ Hp
  ihave Hw := (show (wLoc d ↦[Finset.univ]{tileShare c s} m (wLoc d) : sProp 𝕄) ⊢
    (wM.view.loc (tile d c s) ↦{tileShare c s} m (wLoc d)) from .rfl) $$ Hw
  ihave HP := (show ((tile d c s).loc cc0_scratch0 ↦{fullShare} p₀ : sProp 𝕄) ⊢
    (sP.view.loc (tile d c s) ↦{fullShare} p₀) from .rfl) $$ HP
  ihave HW := (show ((tile d c s).loc cc0_scratch1 ↦{fullShare} w₀ : sProp 𝕄) ⊢
    (sW.view.loc (tile d c s) ↦{fullShare} w₀) from .rfl) $$ HW
  rw [cc0__rope_theta_sc_eq_skeleton]
  unfold cc0__rope_theta_sc_skel
  rw [wp_bind, k0_part1_eq_skeleton]
  unfold k0_part1_skel
  sl_exec
  have hp : sP.view.write (Elt F) p₀ (wp_tile.sl.dma0_1 m d c s) Finset.univ = rowOf (m (pLoc d)) c s := row_fetched c s (m (pLoc d)) p₀
  rw [hp]
  have hx := picks_fetched c s (wp_tile.sl.dma0 m d) (m (wLoc d)) rfl w₀
  ihave HO := (show ((tile d c s).loc cc0_scratch2 ↦{fullShare} o₀ : sProp 𝕄) ⊢
    (sO.view.loc (tile d c s) ↦{fullShare} o₀) from .rfl) $$ HO
  ihave HO := (Entails.of_eq ((scratch_quarters d c s o₀).trans (bigSep_four _))) $$ HO
  icases HO with ⟨HO0, HO1, HO2, HO3⟩
  ihave Ho := (show (oLoc d ↦[part c s]{fullShare} m (oLoc d) : sProp 𝕄) ⊢
    (oM.view.loc (tile d c s) ↦[part c s]{fullShare} m (oLoc d)) from .rfl) $$ Ho
  ihave Ho := (Entails.of_eq ((part_quarters d c s (m (oLoc d))).trans (bigSep_four _))) $$ Ho
  icases Ho with ⟨Ho0, Ho1, Ho2, Ho3⟩
  imod (Transfers.batch_alloc' EC (tile d c s) (default : HIx 1) credit (delivery d c s (m (pLoc d)) (m (wLoc d)))
    (sm := .dma cc0_scratch5.sem) (E := Set.univ)) $$ H5 with HB
  iapply (wp_quarter (m (pLoc d)) (m (wLoc d)) 0 k0_t1_loop k0_t1_ok rfl (fun k => k0_off3 k) k0_off3_eq k0_off3_inb
    (fun k => ![k0_off4 k, k0_off5 k, k0_off6 k, k0_off7 k])
    (fun k => four (k0_off4_eq k) (k0_off5_eq k) (k0_off6_eq k) (k0_off7_eq k))
    (fun k => four (k0_off4_inb k) (k0_off5_inb k) (k0_off6_inb k) (k0_off7_inb k)) _ hx _ (fun _ _ => rfl)
    _ rfl inb_S4x8192_S4x2048_0_0 _ (off8_eq c s) (k0_off8_inb (co c s))) $$ [HP HO0 Ho0 HB]
  · isplitl [HP]; · iexact HP
    isplitl [HO0]; · iexact HO0
    isplitl [Ho0]; · iexact Ho0
    iexact HB
  iintro ⟨HP, HB⟩
  iapply (wp_quarter (m (pLoc d)) (m (wLoc d)) 1 k0_t2_loop k0_t2_ok rfl (fun k => k0_off9 k) k0_off9_eq k0_off9_inb
    (fun k => ![k0_off10 k, k0_off11 k, k0_off12 k, k0_off13 k])
    (fun k => four (k0_off10_eq k) (k0_off11_eq k) (k0_off12_eq k) (k0_off13_eq k))
    (fun k => four (k0_off10_inb k) (k0_off11_inb k) (k0_off12_inb k) (k0_off13_inb k)) _ hx _ (fun _ _ => rfl)
    _ rfl inb_S4x8192_S4x2048_0_2048 _ (off14_eq c s) (k0_off14_inb (co c s))) $$ [HP HO1 Ho1 HB]
  · isplitl [HP]; · iexact HP
    isplitl [HO1]; · iexact HO1
    isplitl [Ho1]; · iexact Ho1
    iexact HB
  iintro ⟨HP, HB⟩
  dsimp only [Prog.bind]
  rw [wp_pure]
  imodintro
  dsimp only
  rw [wp_bind, k0_part3_eq_skeleton]
  unfold k0_part3_skel
  iapply (wp_quarter (m (pLoc d)) (m (wLoc d)) 2 k0_t3_loop k0_t3_ok rfl (fun k => k0_off15 k) k0_off15_eq k0_off15_inb
    (fun k => ![k0_off16 k, k0_off17 k, k0_off18 k, k0_off19 k])
    (fun k => four (k0_off16_eq k) (k0_off17_eq k) (k0_off18_eq k) (k0_off19_eq k))
    (fun k => four (k0_off16_inb k) (k0_off17_inb k) (k0_off18_inb k) (k0_off19_inb k)) _ hx _ (fun _ _ => rfl)
    _ rfl inb_S4x8192_S4x2048_0_4096 _ (off20_eq c s) (k0_off20_inb (co c s))) $$ [HP HO2 Ho2 HB]
  · isplitl [HP]; · iexact HP
    isplitl [HO2]; · iexact HO2
    isplitl [Ho2]; · iexact Ho2
    iexact HB
  iintro ⟨HP, HB⟩
  iapply (wp_quarter (m (pLoc d)) (m (wLoc d)) 3 k0_t4_loop k0_t4_ok rfl (fun k => k0_off21 k) k0_off21_eq k0_off21_inb
    (fun k => ![k0_off22 k, k0_off23 k, k0_off24 k, k0_off25 k])
    (fun k => four (k0_off22_eq k) (k0_off23_eq k) (k0_off24_eq k) (k0_off25_eq k))
    (fun k => four (k0_off22_inb k) (k0_off23_inb k) (k0_off24_inb k) (k0_off25_inb k)) _ hx _ (fun _ _ => rfl)
    _ rfl inb_S4x8192_S4x2048_0_6144 _ (off26_eq c s) (k0_off26_inb (co c s))) $$ [HP HO3 Ho3 HB]
  · isplitl [HP]; · iexact HP
    isplitl [HO3]; · iexact HO3
    isplitl [Ho3]; · iexact Ho3
    iexact HB
  iintro ⟨HP, HB⟩
  have hN : 0 < credit := by decide
  ihave Hm := (Transfers.MayWaits.elim (.dma cc0_scratch5.sem)) $$ Hmw
  iapply (Transfers.wp_waitBatchO EC 𝒱₀ (tile d c s) none (default : HIx 1) (N := credit) rfl (show 0 + credit < credit * 4 by omega)) $$ [HB How Hm]
  · isplitl [HB]; · iexact HB
    isplitl [How]; · iexact How
    iexact Hm
  iintro ⟨HB, How⟩
  dsimp only [Prog.bind]
  rw [wp_pure]
  imodintro
  iapply (Transfers.wp_waitBatchO EC 𝒱₀ (tile d c s) none (default : HIx 1) (N := credit) rfl (show 0 + credit + credit < credit * 4 by omega)) $$ [HB How Hm]
  · isplitl [HB]; · iexact HB
    isplitl [How]; · iexact How
    iexact Hm
  iintro ⟨HB, How⟩
  iapply (Transfers.wp_waitBatchO EC 𝒱₀ (tile d c s) none (default : HIx 1) (N := credit) rfl (show 0 + credit + credit + credit < credit * 4 by omega)) $$ [HB How Hm]
  · isplitl [HB]; · iexact HB
    isplitl [How]; · iexact How
    iexact Hm
  iintro ⟨HB, How⟩
  iapply (Transfers.wp_waitBatchLastO EC 𝒱₀ (tile d c s) none (default : HIx 1) (N := credit) rfl hN (show 0 + credit + credit + credit + credit = credit * 4 by omega)) $$ [HB How Hm]
  · isplitl [HB]; · iexact HB
    isplitl [How]; · iexact How
    iexact Hm
  iintro ⟨HD, H5, How⟩
  ihave HD := (Entails.of_eq (delivered d c s (m (pLoc d)) (m (wLoc d)))) $$ HD
  icases HD with ⟨Ho, HO⟩
  dsimp only [Prog.bind]
  rw [wp_pure]
  imodintro
  isplitl [Hp Hw Ho]
  · isplitl [Hp]; · iexact Hp
    isplitl [Hw]; · iexact Hw
    iexact Ho
  isplitl [HP HW HO Hbufs]
  · isplitl [HP]; · iexists _; iexact HP
    isplitl [HW]; · iexists _; iexact HW
    isplitl [HO]; · iexists _; iexact HO
    iexact Hbufs
  isplitl [H3 H4 H5 Hsems]
  · isplitl [H3]; · iexact H3
    isplitl [H4]; · iexact H4
    isplitl [H5]; · iexact H5
    iexact Hsems
  iexists _
  isplitr
  swap
  · iexact How
  ipureintro
  intro p hp'
  have hw : ∀ {x : SemLoc sig × HIx 1} {Y : Waits sig (HIx 1)}, p ∈ insert x Y → x.2 = none →
      (p ∈ Y → p ∈ W ∨ p.2 = none ∨ p.2 = some (0 : Fin 1)) → p ∈ W ∨ p.2 = none ∨ p.2 = some (0 : Fin 1) := fun h hx ih =>
    (Finset.mem_insert.mp h).elim (fun e => .inr (.inl (e ▸ hx))) ih
  exact hw hp' rfl fun h => hw h rfl fun h => hw h rfl fun h => hw h rfl fun h => hw h rfl fun h => hw h rfl .inl

end Cert.Proof.Rope

end
-- ==== Proof.Launch.lean ====
/-
  The launch: the two SparseCores are each handed a share of the positions and of the frequencies and a half of the
  result, their tiles a share and a part of these; what comes back is the whole result, which the program transposes.
-/
module

public import proofs.«01_k».proof.Proof.Tile

@[expose] public section

noncomputable section

namespace Cert.Proof.Rope

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What is handed down -/

/-- A SparseCore's holding, with its half of the result at contents `f`. -/
def coreHolding (d : Dev nD) (c : Fin 2) (f : S2x64x8192.Idx → F .f32) : sProp 𝕄 :=
  iprop((pLoc d ↦[Finset.univ]{coreShare c} m (pLoc d)) ∗ (wLoc d ↦[Finset.univ]{coreShare c} m (wLoc d)) ∗
    (oLoc d ↦[half c]{fullShare} (f : Buf (Elt F) (oLoc d))))
/-- The same of the whole device: both read-only arrays in full and the whole result. -/
def devHolding (d : Dev nD) (f : S2x64x8192.Idx → F .f32) : sProp 𝕄 :=
  iprop((pLoc d ↦{fullShare} m (pLoc d)) ∗ (wLoc d ↦{fullShare} m (wLoc d)) ∗ (oLoc d ↦{fullShare} (f : Buf (Elt F) (oLoc d))))

/-- A SparseCore's holding is its tiles' together. -/
theorem core_tiles (d : Dev nD) (c : Fin 2) (f : S2x64x8192.Idx → F .f32) :
    (coreHolding m d c f : sProp 𝕄) = bigSep Finset.univ fun s : Fin 16 => holding m d c s f := by
  unfold coreHolding holding tileShare
  rw [bigSep_sep', bigSep_sep', ← Transfers.pointsTo_deal _ Finset.univ_nonempty, ← Transfers.pointsTo_deal _ Finset.univ_nonempty,
    ← pointsTo_biUnion Finset.univ (ℓ := oLoc d) (part c) (part_disjoint c), part_cover]
/-- A device's holding is its two SparseCores' holdings. -/
theorem dev_cores (d : Dev nD) (f : S2x64x8192.Idx → F .f32) :
    (devHolding m d f : sProp 𝕄) = bigSep Finset.univ fun c : Fin 2 => coreHolding m d c f := by
  unfold devHolding coreHolding coreShare
  rw [bigSep_sep', bigSep_sep', ← Transfers.pointsTo_deal _ Finset.univ_nonempty, ← Transfers.pointsTo_deal _ Finset.univ_nonempty,
    ← pointsTo_biUnion Finset.univ (ℓ := oLoc d) half half_disjoint, half_cover]

/-- The launch runs on two SparseCores … -/
theorem nCore_zero : (K (F := F)).nCore 0 = 2 := rfl
/-- … of sixteen tiles each. -/
theorem nSub_zero : (K (F := F)).nSub 0 = 16 := rfl

/-- What the call hands each SparseCore and each tile, and what they hand back. -/
def P : (K (F := F)).Pay (nD := nD) (Val := Elt F) (Name := ℕ) (U := UU) where
  st := fun q d c => match q with | 0 => coreHolding m d (Fin.cast nCore_zero c) (m (oLoc d))
  dn := fun q d c => match q with | 0 => coreHolding m d (Fin.cast nCore_zero c) (result m d)
  go := fun q d c i => match q with | 0 => holding m d (Fin.cast nCore_zero c) (Fin.cast nSub_zero i) (m (oLoc d))
  td := fun q d c i => match q with | 0 => holding m d (Fin.cast nCore_zero c) (Fin.cast nSub_zero i) (result m d)
  x := fun _ _ => iprop(emp)

/-- A SparseCore's holding may be kept in the handshake's cells … -/
instance (d : Dev nD) (c : Fin 2) (f : S2x64x8192.Idx → F .f32) : BI.Storable (upEmb : UEmb _ 𝕄) (coreHolding m d c f) := by
  unfold coreHolding; infer_instance
/-- … and so may a tile's … -/
instance (d : Dev nD) (c : Fin 2) (s : Fin 16) (f : S2x64x8192.Idx → F .f32) : BI.Storable (upEmb : UEmb _ 𝕄) (holding m d c s f) := by
  unfold holding; infer_instance

/-- … and with them all that the handshakes carry. -/
instance P_storable : (P (F := F) m).IsStorable where
  st q d c := match q with | 0 => (inferInstance : BI.Storable (upEmb : UEmb _ 𝕄) (coreHolding m d (Fin.cast nCore_zero c) (m (oLoc d))))
  dn q d c := match q with | 0 => (inferInstance : BI.Storable (upEmb : UEmb _ 𝕄) (coreHolding m d (Fin.cast nCore_zero c) (result m d)))
  go q d c i := match q with
    | 0 => (inferInstance : BI.Storable (upEmb : UEmb _ 𝕄) (holding m d (Fin.cast nCore_zero c) (Fin.cast nSub_zero i) (m (oLoc d))))
  td q d c i := match q with
    | 0 => (inferInstance : BI.Storable (upEmb : UEmb _ 𝕄) (holding m d (Fin.cast nCore_zero c) (Fin.cast nSub_zero i) (result m d)))

/-! ## The tiles' obligation -/

/-- What a tile runs is the kernel at its own coordinates. -/
theorem defs₀_vector (c : Fin τ.nSC) (s : Fin τ.nSub) :
    defs₀ (F := F) (.scVector c s) 0 ()
      = SparseCore.onTile hcore0 hsub0 (fun c s => cc0__rope_theta_sc (co c s) pM (Memref.isWhole_whole _) wM (Memref.isWhole_whole _)
          oM (Memref.isWhole_whole _) sP (Memref.isWhole_whole _) sW (Memref.isWhole_whole _) sO (Memref.isWhole_whole _)
          cc0_scratch3 cc0_scratch4 cc0_scratch5) ⟨⟩ c s := rfl

/-- Every tile does its task. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact wp_tile m d (Fin.cast nCore_zero c) (Fin.cast nSub_zero i) hF O W hO

/-- A SparseCore deals what it is handed to its tiles, and collects what they hand back. -/
theorem vecSplit : (K (F := F)).VecSplit' (P m) 0 := by
  intro d c
  show (coreHolding m d (Fin.cast nCore_zero c) (m (oLoc d)) : sProp 𝕄) ⊢ |={Set.univ}=> iprop(
      (bigSep Finset.univ fun i : Fin 16 => holding m d (Fin.cast nCore_zero c) i (m (oLoc d)))
      ∗ ((bigSep Finset.univ fun i : Fin 16 => holding m d (Fin.cast nCore_zero c) i (result m d)) -∗
        coreHolding m d (Fin.cast nCore_zero c) (result m d)))
  rw [core_tiles, core_tiles]
  iintro H; imodintro
  isplitl [H]; · iexact H
  iintro H; iexact H

/-! ## The launch's ghost state -/

/-- The ghost state at the start: the handshakes before their first round, no transfer counted. -/
def u₀ : UU := (initOf (K (F := F)).hsCells (K (F := F)).hsToks, 1)

/-- A conjunction of nothing is nothing. -/
theorem bigSep_emp' {I : Type} (s : Finset I) : (bigSep s fun _ => iprop(emp)) = (iprop(emp) : sProp 𝕄) := bigSep_emp_const s

/-- The ghost state at the start splits into what the launch needs. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The program on the TensorCore -/

/-- The four arrays of the program as the buffers of a device: the positions, the frequencies, … -/
abbrev p' : DevRef τ sig := Proc.devRef .tc (main_arg0 : Ref sig .tc)
abbrev w' : DevRef τ sig := Proc.devRef .tc (main_arg1 : Ref sig .tc)
/-- … the kernel's result and the program's. -/
abbrev o' : DevRef τ sig := Proc.devRef .tc (main_v0 : Ref sig .tc)
abbrev r' : DevRef τ sig := Proc.devRef .tc (main_v1 : Ref sig .tc)

/-- The program's result on device `d`: the kernel's, its last two axes exchanged. -/
def output (d : Dev nD) : S2x8192x64.Idx → F .f32 :=
  transpose S2x8192x64 [0, 2, 1] (result m d) transposes_S2x64x8192_S2x8192x64_0_2_1

/-- The operation that exchanges them. -/
abbrev opT : HloOp τ sig (Elt F) :=
  StableHlo.unary main_v0 main_v1 ((transpose S2x8192x64 [0, 2, 1] · transposes_S2x64x8192_S2x8192x64_0_2_1) :
    (⟨S2x64x8192, .f32⟩ : BufTy).Contents (Elt F) → (⟨S2x8192x64, .f32⟩ : BufTy).Contents (Elt F))
/-- The four arrays of the program. -/
abbrev S4 : Finset (DevRef τ sig) := {p', w', o', r'}

/-- The operation touches no other array. -/
theorem opT_bufs : (opT (F := F)).bufs ⊆ S4 := show ({o', r'} : Finset (DevRef τ sig)) ⊆ S4 by decide

/-- To hold the four arrays at a valuation is to hold each at its value. -/
theorem held_S4 (d : Dev nD) (W : Valuation τ sig (Elt F)) :
    (held (T d) S4 W : sProp 𝕄) = iprop((pLoc d ↦{fullShare} W p') ∗ (wLoc d ↦{fullShare} W w') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

/-- The program's unscoped buffers are these four. -/
theorem unscopedBufs_eq (d : Dev nD) (W : (b : Ref sig .tc) → Buf (Elt F) ((d.tc : Thread nD τ).loc b)) :
    (unscopedBufs d W : sProp 𝕄)
      = iprop((pLoc d ↦{fullShare} W main_arg0) ∗ (wLoc d ↦{fullShare} W main_arg1) ∗ (oLoc d ↦{fullShare} W main_v0) ∗ rLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The arrays once the kernel has run, and once its result is transposed. -/
def V1 (d : Dev nD) : Valuation τ sig (Elt F) := Function.update (fun b => m (d, b)) o' (result m d)

/-- Before the last operation: the arguments as launched, the kernel's result finished. -/
theorem held_V1 (d : Dev nD) :
    (held (T d) S4 (V1 m d) : sProp 𝕄) = iprop((pLoc d ↦{fullShare} m (pLoc d)) ∗ (wLoc d ↦{fullShare} m (wLoc d)) ∗
      (oLoc d ↦{fullShare} (result m d : Buf (Elt F) (oLoc d))) ∗ rLoc d ↦{fullShare} m (rLoc d)) := by
  rw [held_S4, V1, Function.update_self, Function.update_of_ne (show p' ≠ o' by decide), Function.update_of_ne (show w' ≠ o' by decide),
    Function.update_of_ne (show r' ≠ o' by decide)]

/-- After it: the program's result is `output`, all else as before. -/
theorem held_V2 (d : Dev nD) :
    (held (T d) S4 ((opT (F := F)).result (V1 m d)) : sProp 𝕄) = iprop((pLoc d ↦{fullShare} m (pLoc d)) ∗ (wLoc d ↦{fullShare} m (wLoc d)) ∗
      (oLoc d ↦{fullShare} (result m d : Buf (Elt F) (oLoc d))) ∗ rLoc d ↦{fullShare} (output m d : Buf (Elt F) (rLoc d))) := by
  rw [held_S4, (opT (F := F)).result_of_not_mem (V1 m d) (b := p') (show p' ∉ ({r'} : Finset (DevRef τ sig)) by decide),
    (opT (F := F)).result_of_not_mem (V1 m d) (b := w') (show w' ∉ ({r'} : Finset (DevRef τ sig)) by decide),
    (opT (F := F)).result_of_not_mem (V1 m d) (b := o') (show o' ∉ ({r'} : Finset (DevRef τ sig)) by decide),
    StableHlo.unary_result, V1, Function.update_self, Function.update_of_ne (show p' ≠ o' by decide),
    Function.update_of_ne (show w' ≠ o' by decide)]
  rfl

/-- What the call hands the two SparseCores is the device's holding, the result as launched … -/
theorem st_eq (d : Dev nD) : (bigSep Finset.univ fun c : Fin ((K (F := F)).nCore 0) => (P m).st 0 d c) = devHolding m d (m (oLoc d)) :=
  (dev_cores m d (m (oLoc d))).symm
/-- … and what they hand back together is the same with the result finished. -/
theorem dn_eq (d : Dev nD) : (bigSep Finset.univ fun c : Fin ((K (F := F)).nCore 0) => (P m).dn 0 d c) = devHolding m d (result m d) :=
  (dev_cores m d (result m d)).symm

/-- What the program leaves: its arguments as they were, and its result. -/
abbrev FIN (d : Dev nD) : sProp 𝕄 :=
  iprop((pLoc d ↦{fullShare} m (pLoc d)) ∗ (wLoc d ↦{fullShare} m (wLoc d)) ∗ rLoc d ↦{fullShare} (output m d : Buf (Elt F) (rLoc d)))

/-- The program on device `d`: the kernel, then the exchange of axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hw, Ho, Hr⟩, Hts, -⟩, -⟩
  iapply ((K (F := F)).wp_run (D (F := F)) 𝒱 (EH := EH) (P := P m) κ d 0) $$ [Hst Hp Hw Ho Hb Hr Hts]
  isplitr; · iexact Hctx
  isplitl [Hst]; · iexact Hst
  isplitl [Hp Hw Ho]
  · rw [st_eq]; unfold devHolding
    isplitl [Hp]; · iexact Hp
    isplitl [Hw]; · iexact Hw
    iexact Ho
  iintro ⟨Hst, Hdn⟩
  ihave Hdn := (Entails.of_eq (dn_eq m d)) $$ Hdn
  unfold devHolding
  icases Hdn with ⟨Hp, Hw, Ho⟩
  iapply (wp_hlo_within 𝒱 (SparseCore.T d) none Set.univ (op := opT) (S := S4) opT_bufs (V := V1 m d)) $$ [Hb Hp Hw Ho Hr]
  · isplitl [Hb]; · iexact Hb
    rw [held_V1]
    isplitl [Hp]; · iexact Hp
    isplitl [Hw]; · iexact Hw
    isplitl [Ho]; · iexact Ho
    iexact Hr
  iintro ⟨Hb, Hheld⟩
  ihave Hh := (Entails.of_eq (held_V2 (F := F) m d)) $$ Hheld
  icases Hh with ⟨Hp, Hw, -, Hr⟩
  rw [wp_ret]; imodintro; imodintro
  isplitl [Hst]; · iexact Hst
  isplitr [Hb Hts]
  · isplitl [Hp]; · iexact Hp
    isplitl [Hw]; · iexact Hw
    iexact Hr
  isplitl [Hb] <;> iassumption

/-- What the final memory then holds on device `d`. -/
def fq (d : Dev nD) (s' : Phys nD τ sig (Elt F)) : Prop :=
  s'.mem.mem (pLoc d) = m (pLoc d) ∧ s'.mem.mem (wLoc d) = m (wLoc d) ∧ s'.mem.mem (rLoc d) = output m d

/-- An array held whole is the final memory's. -/
theorem held_final (ℓ : Loc nD τ sig) (f : Buf (Elt F) ℓ) (s' : Phys nD τ sig (Elt F)) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HS, -⟩
  isplitr
  · ipureintro; exact funext fun i => h i (Finset.mem_univ i)
  · iexact HS

/-- What is held at the end fixes the memory: `fq` holds of it. -/
theorem hfin (d : Dev nD) (s' : Phys nD τ sig (Elt F)) : iprop(FIN m d ∗ SI s') ⊢ (⌜fq m d s'⌝ : sProp 𝕄) := by
  iintro ⟨⟨Hp, Hw, Hr⟩, HS⟩
  ihave H := (held_final (pLoc d) _ s') $$ [HS Hp]
  · isplitl [HS] <;> iassumption
  icases H with ⟨%hp, HS⟩
  ihave H := (held_final (wLoc d) _ s') $$ [HS Hw]
  · isplitl [HS] <;> iassumption
  icases H with ⟨%hw, HS⟩
  ihave H := (held_final (rLoc d) _ s') $$ [HS Hr]
  · isplitl [HS] <;> iassumption
  icases H with ⟨%hr, HS⟩
  ipureintro; exact ⟨hp, hw, hr⟩

/-! ## The run -/

/-- What a run ends in: on every device the arguments as launched and the result at `output`, and every semaphore at zero. -/
def QC : PUnit × MemSt nD τ sig (Elt F) → Prop := fun r =>
  (∀ d : Dev nD, r.2.mem (pLoc d) = m (pLoc d) ∧ r.2.mem (wLoc d) = m (wLoc d) ∧ r.2.mem (rLoc d) = output m d) ∧ r.2.sem = fun _ => 0

/-- Every run of the program ends, its arguments unchanged, its result at `output` and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rope

end
-- ==== Proof.Value.lean ====
/-
  What the reference computes. It builds the table of every position's angles, looks each position's row up in it
  (`jnp.take`, which wraps a negative position, gathers, and replaces a row outside the table by NaN) and multiplies
  by one. For positions the table holds, nothing is wrapped and nothing replaced, the row found is the position's
  own, and at the extended reals the factor one changes nothing: the reference's result is the kernel program's.
-/
module

public import proofs.«01_k».proof.Proof.Launch
public import proofs.«01_k».proof.Proof.Gen.Pre_in_range
public import proofs.«01_k».proof.Proof.Gen.ReferenceIdeal
public import proofs.«01_k».proof.Proof.Gen.ReferenceIdeal.Run
public import Idealize.ShloMosaic.Lib.IdealHost
public import Idealize.ShloMosaic.Lib.WordCmp
public import Idealize.ShloMosaic.Lib.Pipeline.Value

@[expose] public section

noncomputable section

namespace Cert.Proof.Table

open Cert.ReferenceIdeal Cert.ReferenceIdeal.Gen
open Idealize.ShloMosaic Idealize.ShloMosaic.ValueIdx

/-! ## A conjunction over an array -/

/-- Folding `and` over a list of bits gives 1 exactly when the bit it starts from and every bit of the list are 1. -/
theorem foldl_andi {ι : Type} (g : ι → BitVec 1) (l : List ι) (b : BitVec 1) :
    l.foldl (fun r n => IntOp.andi r (g n)) b = 1#1 ↔ b = 1#1 ∧ ∀ n ∈ l, g n = 1#1 := by
  induction l generalizing b with
  | nil => simp
  | cons a l ih =>
    have h : IntOp.andi b (g a) = 1#1 ↔ b = 1#1 ∧ g a = 1#1 := by
      generalize g a = y
      revert b y; decide
    rw [List.foldl_cons, ih, h, List.forall_mem_cons, and_assoc]

/-- A reduction by `and` from 1 is 1 at `j` exactly when every element that reduces to `j` is 1. -/
theorem reduce_andi {s t u : Shape} {axes : List (Fin s.rank)} (x : IVec s 1) (h : s.ReducesTo axes t) (hu : 0 < u.numel) (j : t.Idx) :
    Host.reduce IntOp.andi x (constantI u 1 1#1) h hu j = 1#1 ↔ ∀ i, h.drop i = j → x i = 1#1 := by
  unfold Host.reduce
  rw [foldl_andi]
  refine ⟨fun ⟨_, H⟩ i hi => ?_, fun H => ⟨rfl, fun n hn => H _ (of_decide_eq_true (List.mem_filter.1 hn).2)⟩⟩
  have := H (s.rowMajor i) (List.mem_filter.2 ⟨List.mem_finRange _, decide_eq_true (by rw [Equiv.symm_apply_apply]; exact hi)⟩)
  rwa [Equiv.symm_apply_apply] at this

/-- The precondition says what its name does: every position is below 8192. -/
theorem lt_of_in_range (p : S2x8192.Idx → BitVec 32) (w : FVec Ideal S64 .f32) (h : Cert.Pre_in_range.fn (F := Ideal) p w = fun _ => 1#1)
    (i : S2x8192.Idx) : (p i).toNat < 8192 := by
  have hi := (reduce_andi _ _ _ ix0).1 (congrFun h ix0) i (Subsingleton.elim _ _)
  have e : IntOp.andi (IntOp.cmpi .sge (p i) 0#32) (IntOp.cmpi .slt (p i) (BitVec.ofNat 32 8192)) = 1#1 := hi
  rw [WordCmp.andi_sge_zero_slt_ofNat (by decide)] at e
  by_contra hn
  rw [decide_eq_false hn] at e
  exact absurd e (by decide)

/-! ## The lookup -/

variable {F : FTy → Type} [FloatOps F]

/-- Where each position is looked up: itself, or itself plus 8192 where it is negative. -/
def start (p : S2x8192.Idx → BitVec 32) : IVec S2x8192x1 32 :=
  broadcastInDim S2x8192x1 ![0, 1] bcast_S2x8192_S2x8192x1_0_1
    (select (cmpi .slt p (broadcastInDim S2x8192 ![] bcast_S_S2x8192 (constantI S_ 32 0#32)))
      (addi p (broadcastInDim S2x8192 ![] bcast_S_S2x8192 (constantI S_ 32 8192#32))) p)

/-- The bit that says the table holds the row looked up. -/
def inside (p : S2x8192.Idx → BitVec 32) : IVec S2x8192 1 :=
  Host.reduce IntOp.andi
    (andi (cmpi .sge (start p) (broadcastInDim S2x8192x1 ![] bcast_S_S2x8192x1 (constantI S_ 32 0#32)))
      (cmpi .sle (start p) (broadcastInDim S2x8192x1 ![0, 1, 2] bcast_S1x1x1_S2x8192x1_0_1_2
        (broadcastInDim S1x1x1 ![2] bcast_S1_S1x1x1_2 (constantI S1 32 8191#32)))))
    (constantI S_ 1 1#1) reducesTo_S2x8192x1_S2x8192_d2 h_S_

/-- The table: row `n` is the angles of position `n`. -/
def table (w : FVec F S64 .f32) : FVec F S8192x64 .f32 :=
  mulf (broadcastInDim S8192x64 ![0, 1] bcast_S8192x1_S8192x64_0_1
      (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1 w))

/-- The reference's result. -/
def looked (p : S2x8192.Idx → BitVec 32) (w : FVec F S64 .f32) : FVec F S2x8192x64 .f32 :=
  mulf (select (broadcastInDim S2x8192x64 ![0, 1] bcast_S2x8192_S2x8192x64_0_1 (inside p))
      (Host.gather gather_S8192x64_S2x8192x1_S2x8192x64_2_0_n_n_0_2_164 (table w) (start p))
      (broadcastInDim S2x8192x64 ![] bcast_S_S2x8192x64 (constant S_ .f32 0x7FC00000#32)))
    (broadcastInDim S2x8192x64 ![] bcast_S_S2x8192x64 (constant S_ .f32 0x3F800000#32))

/-- Row `n` of the table at frequency `k` is the angle of the word `n` at that frequency. -/
theorem table_apply (w : FVec F S64 .f32) (n : Fin 8192) (k : Fin 64) :
    table w (ix2 n k) = Rope.angle (BitVec.ofNat 32 n.val) (w (ix1 k)) := by
  have hn : broadcastInDim S8192x64 ![0, 1] bcast_S8192x1_S8192x64_0_1
      (broadcastInDim S8192x1 ![0] bcast_S8192_S8192x1_0 (sitofp (F := F) .f32 (iotaInDim S8192 32 0))) (ix2 n k)
      = FloatOps.sitofp .f32 (BitVec.ofNat 32 n.val) := by
    refine (broadcastInDim_apply _ _ _ _ (ix2 n (0 : Fin 1)) fun a => ?_).trans (broadcastInDim_apply _ _ _ _ (ix1 n) fun a => ?_)
    · match a with
      | ⟨0, _⟩ => rfl
      | ⟨1, _⟩ => rfl
    · match a with
      | ⟨0, _⟩ => rfl
  have hk : broadcastInDim S8192x64 ![0, 1] bcast_S1x64_S8192x64_0_1 (broadcastInDim S1x64 ![1] bcast_S64_S1x64_1 w) (ix2 n k) = w (ix1 k) := by
    refine (broadcastInDim_apply _ _ _ _ (ix2 (0 : Fin 1) k) fun a => ?_).trans (broadcastInDim_apply _ _ _ _ (ix1 k) fun a => ?_)
    · match a with
      | ⟨0, _⟩ => rfl
      | ⟨1, _⟩ => rfl
    · match a with
      | ⟨0, _⟩ => rfl
  exact congrArg₂ FloatOps.mulf hn hk

/-- A position below 8192 is looked up at itself. -/
theorem start_apply (p : S2x8192.Idx → BitVec 32) (hp : ∀ i, (p i).toNat < 8192) (b : Fin 2) (t : Fin 8192) (z : Fin 1) :
    start p (ix3 b t z) = p (ix2 b t) := by
  have e : start p (ix3 b t z) = Scalar.select (IntOp.cmpi .slt (p (ix2 b t)) 0#32) (IntOp.addi (p (ix2 b t)) 8192#32) (p (ix2 b t)) := by
    refine broadcastInDim_apply _ _ _ _ (ix2 b t) fun a => ?_
    match a with
    | ⟨0, _⟩ => rfl
    | ⟨1, _⟩ => rfl
  rw [e, WordCmp.cmpi_slt_zero, decide_eq_false (by have := hp (ix2 b t); omega)]
  rfl

/-- The table holds the row of a position below 8192. -/
theorem inside_apply (p : S2x8192.Idx → BitVec 32) (hp : ∀ i, (p i).toNat < 8192) (j : S2x8192.Idx) : inside p j = 1#1 := by
  refine (reduce_andi _ _ _ j).2 fun i _ => ?_
  obtain ⟨b, t, z, rfl⟩ : ∃ b t z, i = ix3 b t z := ⟨_, _, _, eq_ix3 i⟩
  show IntOp.andi (IntOp.cmpi .sge (start p (ix3 b t z)) 0#32) (IntOp.cmpi .sle (start p (ix3 b t z)) 8191#32) = 1#1
  rw [start_apply p hp]
  have h := hp (ix2 b t)
  generalize p (ix2 b t) = x at h
  have hx : x = BitVec.ofNat 32 x.toNat := by simp
  rw [hx]
  generalize x.toNat = n at h
  word_cmp

/-- The row gathered at `(b, t)` is the table's row at the word looked up there, when that word is below 8192. -/
theorem gather_apply (x : FVec F S8192x64 .f32) (idx : IVec S2x8192x1 32) (b : Fin 2) (t : Fin 8192) (k : Fin 64)
    (h : (idx (ix3 b t 0)).toNat < 8192) :
    Host.gather gather_S8192x64_S2x8192x1_S2x8192x64_2_0_n_n_0_2_164 x idx (ix3 b t k) = x (ix2 ⟨(idx (ix3 b t 0)).toNat, h⟩ k) := by
  refine congrArg x (funext fun a => Fin.ext ?_)
  show GatherDims.start _ (ix3 b t k) idx a + GatherDims.batchCoord _ (ix3 b t k) a + GatherDims.offCoord _ (ix3 b t k) a = _
  rw [GatherDims.batchCoord_eq_zero _ _ _ List.not_mem_nil, Nat.add_zero]
  match a with
  | ⟨0, _⟩ =>
    rw [GatherDims.offCoord_eq_zero _ _ _ (fun h => ((GatherDims.mem_sKept _ _).1 h).1 (List.mem_singleton.2 rfl)), Nat.add_zero]
    unfold GatherDims.start
    rw [dif_pos (show (⟨0, Nat.two_pos⟩ : Fin S8192x64.rank) ∈ GatherDims.startIndexMap _ from List.mem_singleton.2 rfl)]
    have e : ∀ i, i = ix3 b t (0 : Fin 1) → min (idx i).toInt.toNat 8191 = (idx (ix3 b t 0)).toNat := by
      rintro i rfl
      rw [BitVec.toInt_eq_toNat_of_lt (by omega)]
      omega
    refine e _ (funext fun c => Fin.ext ?_)
    match c with
    | ⟨0, _⟩ => rfl
    | ⟨1, _⟩ => rfl
    | ⟨2, _⟩ => rfl
  | ⟨1, _⟩ =>
    unfold GatherDims.start
    rw [dif_neg (show (⟨1, Nat.one_lt_two⟩ : Fin S8192x64.rank) ∉ GatherDims.startIndexMap _ from
      fun h => absurd (congrArg Fin.val (List.mem_singleton.1 h)) Nat.one_ne_zero), Nat.zero_add]
    rfl

/-- At the extended reals, for positions below 8192, the reference's result is each position's angle at each frequency. -/
theorem looked_apply (p : S2x8192.Idx → BitVec 32) (w : FVec Ideal S64 .f32) (hp : ∀ i, (p i).toNat < 8192) (b : Fin 2) (t : Fin 8192) (k : Fin 64) :
    looked p w (ix3 b t k) = Rope.angle (p (ix2 b t)) (w (ix1 k)) := by
  have hs : start p (ix3 b t 0) = p (ix2 b t) := start_apply p hp b t 0
  have hg := gather_apply (table w) (start p) b t k (hs ▸ hp _)
  rw [table_apply, BitVec.ofNat_toNat, BitVec.setWidth_eq, hs] at hg
  have hi : broadcastInDim S2x8192x64 ![0, 1] bcast_S2x8192_S2x8192x64_0_1 (inside p) (ix3 b t k) = 1#1 := inside_apply p hp _
  unfold looked
  rw [mulf_apply, select_apply, hi, select_one, hg]
  show _ * Ideal.ofBits .f32 0x3F800000#32 = _
  rw [Ideal.ofBits_one_f32, mul_one]

/-- So it is the kernel program's result. -/
theorem looked_eq (m : (ℓ : Loc Cert.KernelIdeal.nD Cert.KernelIdeal.τ Cert.KernelIdeal.sig) → Buf (Elt Ideal) ℓ) (d : Dev Cert.KernelIdeal.nD)
    (hp : ∀ i, (m (Rope.pLoc d) i).toNat < 8192) : looked (F := Ideal) (m (Rope.pLoc d)) (m (Rope.wLoc d)) = Rope.output m d := by
  funext j
  obtain ⟨b, t, k, rfl⟩ : ∃ b t k, j = ix3 b t k := ⟨_, _, _, eq_ix3 j⟩
  refine (looked_apply _ _ hp b t k).trans (Eq.symm ?_)
  refine transpose_apply _ _ _ (ix3 b t k) (ix3 b k t) fun c => ?_
  match c with
  | ⟨0, _⟩ => rfl
  | ⟨1, _⟩ => rfl
  | ⟨2, _⟩ => rfl

end Cert.Proof.Table

end
-- ==== Proof.lean ====
/-
  The proof of `Cert.Claim`: the program runs to its end with its arguments unchanged and every semaphore at zero, on
  words and at the extended reals alike, since one text serves both (Proof/Launch.lean); so does the reference; and at
  the extended reals, for positions in range, both end with the same result (Proof/Value.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The program on words: its text is the idealized program's, so the run over any float values serves, at words. -/
theorem frame_kernel : Cert.quiescent_Kernel := fun m ρ _ =>
  (θ_run Cert.KernelIdeal.defs _ _).mono (fun _ h => ⟨fun c => ⟨(h.1 c).1, (h.1 c).2.1⟩, h.2⟩) (Rope.run_main (F := Bits) m ρ)

/-- The idealized program, from any memory. -/
theorem frame_ideal : Cert.quiescent_KernelIdeal := fun m ρ _ =>
  (θ_run Cert.KernelIdeal.defs _ _).mono (fun _ h => ⟨fun c => ⟨(h.1 c).1, (h.1 c).2.1⟩, h.2⟩) (Rope.run_main (F := Ideal) m ρ)

/-- The reference, from any memory; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- For positions in range both programs end with the angles of the positions, `Rope.output`. -/
theorem algebraic : Cert.algebraic_KernelIdeal_ReferenceIdeal_pre_in_range := fun m ρ m' ρ' hpre hag =>
  ⟨fun c => Rope.output (F := Ideal) m c,
    (θ_run Cert.KernelIdeal.defs _ _).mono (fun _ h c => ⟨(h.1 c).2.2, (h.1 c).1, (h.1 c).2.1⟩) (Rope.run_main (F := Ideal) m ρ),
    (θ_run Cert.ReferenceIdeal.defs _ _).mono
      (fun _ h c => ⟨(h c).1.trans <| (congrArg₂ (Table.looked (F := Ideal)) (hag c).1 (hag c).2).trans <|
          Table.looked_eq m c (Table.lt_of_in_range _ _ (hpre c)), (h c).2⟩)
      (Cert.ReferenceIdeal.Value.run (F := Ideal) m' ρ')⟩

/-- Every claim: the frames, without and with the precondition, the rules' (there are none) and the equality. -/
theorem claim : Cert.Claim :=
  ⟨Cert.Kernel.Gen.facts, Cert.KernelIdeal.Gen.facts, Cert.ReferenceIdeal.Gen.facts, Cert.Pre_in_range.Gen.facts,
    frame_kernel, frame_ideal, fun m ρ _ => frame_ideal m ρ trivial, frame_reference, fun m ρ _ => frame_reference m ρ trivial,
    trivial, algebraic⟩

end Cert.Proof

end
